-- ==== Defs.lean ====
def Pre_Kernel [hPre_edges : Cert.Pre_edges.Facts] (m : (ℓ : Loc Cert.Kernel.nD Cert.Kernel.τ Cert.Kernel.sig) → Buf (Elt Bits) ℓ) : Prop :=
  ∀ c : Dev Cert.Kernel.nD,
    (Cert.Pre_edges.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_edges : Cert.Pre_edges.Facts] (m : (ℓ : Loc Cert.KernelIdeal.nD Cert.KernelIdeal.τ Cert.KernelIdeal.sig) → Buf (Elt Ideal) ℓ) : Prop :=
  ∀ c : Dev Cert.KernelIdeal.nD,
    (Cert.Pre_edges.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_KernelIdeal_tame [hPre_tame : Cert.Pre_tame.Facts] (m : (ℓ : Loc Cert.KernelIdeal.nD Cert.KernelIdeal.τ Cert.KernelIdeal.sig) → Buf (Elt Ideal) ℓ) : Prop :=
  ∀ c : Dev Cert.KernelIdeal.nD,
    (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tame [hPre_tame : Cert.Pre_tame.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] [hPre_edges : Cert.Pre_edges.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_edges : Cert.Pre_edges.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_tame [hKernelIdeal : Cert.KernelIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tame m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_tame [hReferenceIdeal : Cert.ReferenceIdeal.Facts] [hPre_tame : Cert.Pre_tame.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tame m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_tame [hKernelIdeal : Cert.KernelIdeal.Facts] [hReferenceIdeal : Cert.ReferenceIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tame m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_edges : Cert.Pre_edges.Facts) (hPre_tame : Cert.Pre_tame.Facts),
    quiescent_Kernel (hKernel := hKernel) (hPre_edges := hPre_edges)
    ∧ quiescent_KernelIdeal (hKernelIdeal := hKernelIdeal) (hPre_edges := hPre_edges)
    ∧ quiescent_KernelIdeal_pre_tame (hKernelIdeal := hKernelIdeal) (hPre_tame := hPre_tame)
    ∧ quiescent_ReferenceIdeal (hReferenceIdeal := hReferenceIdeal)
    ∧ quiescent_ReferenceIdeal_pre_tame (hReferenceIdeal := hReferenceIdeal) (hPre_tame := hPre_tame)
    ∧ preserves_Kernel_KernelIdeal
    ∧ algebraic_KernelIdeal_ReferenceIdeal_pre_tame (hKernelIdeal := hKernelIdeal) (hReferenceIdeal := hReferenceIdeal) (hPre_tame := hPre_tame)
-- ==== Pre_edges.lean ====
abbrev S10000x128 : Shape := ⟨2, ![10000, 128]⟩
abbrev S2x320000 : Shape := ⟨2, ![2, 320000]⟩
abbrev S10000 : Shape := ⟨1, ![10000]⟩
abbrev S128x1 : Shape := ⟨2, ![128, 1]⟩
abbrev S1 : Shape := ⟨1, ![1]⟩
abbrev S_ : Shape := ⟨0, ![]⟩

class Facts : Prop where
  bcast_S_S2x320000 : S_.BroadcastsInDim S2x320000 (![] : Fin 0 → Fin S2x320000.rank)
  reducesTo_S2x320000_S_d0_1 : S2x320000.ReducesTo [0, 1] S_
  h_S_ : 0 < S_.numel

variable [Facts]

def fn {F : FTy → Type} [FloatOps F] (main_arg0 : FVec F S10000x128 .f32) (main_arg1 : IVec S2x320000 32) (main_arg2 : IVec S10000 32) (main_arg3 : FVec F S128x1 .f32) (main_arg4 : FVec F S1 .f32) (main_arg5 : FVec F S128x1 .f32) : IVec S_ 1 :=
  let main_c : IVec S_ 32 := constantI S_ 32 0#32
  let main_v0 : IVec S2x320000 32 := broadcastInDim S2x320000 ![] bcast_S_S2x320000 main_c
  let main_v1 : IVec S2x320000 1 := cmpi .sge main_arg1 main_v0
  let main_c_0 : IVec S_ 1 := constantI S_ 1 1#1
  let main_v2 : IVec S_ 1 := (fun x v => Host.reduce IntOp.andi x v reducesTo_S2x320000_S_d0_1 h_S_) main_v1 main_c_0
  let main_c_1 : IVec S_ 32 := constantI S_ 32 10000#32
  let main_v3 : IVec S2x320000 32 := broadcastInDim S2x320000 ![] bcast_S_S2x320000 main_c_1
  let main_v4 : IVec S2x320000 1 := cmpi .slt main_arg1 main_v3
  let main_c_2 : IVec S_ 1 := constantI S_ 1 1#1
  let main_v5 : IVec S_ 1 := (fun x v => Host.reduce IntOp.andi x v reducesTo_S2x320000_S_d0_1 h_S_) main_v4 main_c_2
  let main_v6 : IVec S_ 1 := andi main_v2 main_v5
  main_v6
-- ==== Pre_tame.lean ====
abbrev S10000x128 : Shape := ⟨2, ![10000, 128]⟩
abbrev S2x320000 : Shape := ⟨2, ![2, 320000]⟩
abbrev S10000 : Shape := ⟨1, ![10000]⟩
abbrev S128x1 : Shape := ⟨2, ![128, 1]⟩
abbrev S1 : Shape := ⟨1, ![1]⟩
abbrev S_ : Shape := ⟨0, ![]⟩

class Facts : Prop where
  bcast_S_S2x320000 : S_.BroadcastsInDim S2x320000 (![] : Fin 0 → Fin S2x320000.rank)
  reducesTo_S2x320000_S_d0_1 : S2x320000.ReducesTo [0, 1] S_
  h_S_ : 0 < S_.numel
  bcast_S_S10000x128 : S_.BroadcastsInDim S10000x128 (![] : Fin 0 → Fin S10000x128.rank)
  reducesTo_S10000x128_S_d0_1 : S10000x128.ReducesTo [0, 1] S_
  bcast_S_S128x1 : S_.BroadcastsInDim S128x1 (![] : Fin 0 → Fin S128x1.rank)
  reducesTo_S128x1_S_d0_1 : S128x1.ReducesTo [0, 1] S_

variable [Facts]

def fn_part1 {F : FTy → Type} [FloatOps F] (main_v11 : IVec S_ 1) (main_v15 : IVec S_ 1) : IVec S_ 1 :=
  let main_v16 : IVec S_ 1 := andi main_v11 main_v15
  main_v16

def fn {F : FTy → Type} [FloatOps F] (main_arg0 : FVec F S10000x128 .f32) (main_arg1 : IVec S2x320000 32) (main_arg2 : IVec S10000 32) (main_arg3 : FVec F S128x1 .f32) (main_arg4 : FVec F S1 .f32) (main_arg5 : FVec F S128x1 .f32) : IVec S_ 1 :=
  let main_c : IVec S_ 32 := constantI S_ 32 0#32
  let main_v0 : IVec S2x320000 32 := broadcastInDim S2x320000 ![] bcast_S_S2x320000 main_c
  let main_v1 : IVec S2x320000 1 := cmpi .sge main_arg1 main_v0
  let main_c_0 : IVec S_ 1 := constantI S_ 1 1#1
  let main_v2 : IVec S_ 1 := (fun x v => Host.reduce IntOp.andi x v reducesTo_S2x320000_S_d0_1 h_S_) main_v1 main_c_0
  let main_c_1 : IVec S_ 32 := constantI S_ 32 10000#32
  let main_v3 : IVec S2x320000 32 := broadcastInDim S2x320000 ![] bcast_S_S2x320000 main_c_1
  let main_v4 : IVec S2x320000 1 := cmpi .slt main_arg1 main_v3
  let main_c_2 : IVec S_ 1 := constantI S_ 1 1#1
  let main_v5 : IVec S_ 1 := (fun x v => Host.reduce IntOp.andi x v reducesTo_S2x320000_S_d0_1 h_S_) main_v4 main_c_2
  let main_v6 : IVec S_ 1 := andi main_v2 main_v5
  let main_v7 : FVec F S10000x128 .f32 := Host.absf main_arg0
  let main_cst : FVec F S_ .f32 := constant S_ .f32 0x7F800000#32
  let main_v8 : FVec F S10000x128 .f32 := broadcastInDim S10000x128 ![] bcast_S_S10000x128 main_cst
  let main_v9 : IVec S10000x128 1 := cmpf .olt main_v7 main_v8
  let main_c_3 : IVec S_ 1 := constantI S_ 1 1#1
  let main_v10 : IVec S_ 1 := (fun x v => Host.reduce IntOp.andi x v reducesTo_S10000x128_S_d0_1 h_S_) main_v9 main_c_3
  let main_v11 : IVec S_ 1 := andi main_v6 main_v10
  let main_v12 : FVec F S128x1 .f32 := Host.absf main_arg3
  let main_cst_4 : FVec F S_ .f32 := constant S_ .f32 0x7F800000#32
  let main_v13 : FVec F S128x1 .f32 := broadcastInDim S128x1 ![] bcast_S_S128x1 main_cst_4
  let main_v14 : IVec S128x1 1 := cmpf .olt main_v12 main_v13
  let main_c_5 : IVec S_ 1 := constantI S_ 1 1#1
  let main_v15 : IVec S_ 1 := (fun x v => Host.reduce IntOp.andi x v reducesTo_S128x1_S_d0_1 h_S_) main_v14 main_c_5
  fn_part1 (F := F) main_v11 main_v15
-- ==== Kernel.lean ====
abbrev S10000x128 : Shape := ⟨2, ![10000, 128]⟩
abbrev S2x320000 : Shape := ⟨2, ![2, 320000]⟩
abbrev S10000 : Shape := ⟨1, ![10000]⟩
abbrev S128x1 : Shape := ⟨2, ![128, 1]⟩
abbrev S1 : Shape := ⟨1, ![1]⟩
abbrev S1x128 : Shape := ⟨2, ![1, 128]⟩
abbrev S5x1x2000 : Shape := ⟨3, ![5, 1, 2000]⟩
abbrev S2000x128 : Shape := ⟨2, ![2000, 128]⟩
abbrev S1x1x2000 : Shape := ⟨3, ![1, 1, 2000]⟩
abbrev S1x2000 : Shape := ⟨2, ![1, 2000]⟩
abbrev S1x320000 : Shape := ⟨2, ![1, 320000]⟩
abbrev S320000 : Shape := ⟨1, ![320000]⟩
abbrev S5x32x2000 : Shape := ⟨3, ![5, 32, 2000]⟩
abbrev S_ : Shape := ⟨0, ![]⟩
abbrev S16 : Shape := ⟨1, ![16]⟩
abbrev S2000 : Shape := ⟨1, ![2000]⟩
abbrev S1x1 : Shape := ⟨2, ![1, 1]⟩
abbrev S64x128 : Shape := ⟨2, ![64, 128]⟩
abbrev S1x32x2000 : Shape := ⟨3, ![1, 32, 2000]⟩
abbrev S64x1 : Shape := ⟨2, ![64, 1]⟩
abbrev S32x2000 : Shape := ⟨2, ![32, 2000]⟩
abbrev S64x2000 : Shape := ⟨2, ![64, 2000]⟩
abbrev S64 : Shape := ⟨1, ![64]⟩

abbrev nBuf : Table → Nat
  | .hbm => 18
  | .local .tc .vmem => 17
  | .local .scVector .vmem => 4
  | _ => 0

abbrev bufTy : (tb : Table) → Fin (nBuf tb) → BufTy
  | .hbm, ⟨0, _⟩ => ⟨S10000x128, .f32⟩
  | .hbm, ⟨1, _⟩ => ⟨S2x320000, .i32⟩
  | .hbm, ⟨2, _⟩ => ⟨S10000, .i32⟩
  | .hbm, ⟨3, _⟩ => ⟨S128x1, .f32⟩
  | .hbm, ⟨4, _⟩ => ⟨S1, .f32⟩
  | .hbm, ⟨5, _⟩ => ⟨S128x1, .f32⟩
  | .hbm, ⟨6, _⟩ => ⟨S1x128, .f32⟩
  | .hbm, ⟨7, _⟩ => ⟨S5x1x2000, .f32⟩
  | .hbm, ⟨8, _⟩ => ⟨S10000, .f32⟩
  | .hbm, ⟨9, _⟩ => ⟨S1x320000, .i32⟩
  | .hbm, ⟨10, _⟩ => ⟨S320000, .i32⟩
  | .hbm, ⟨11, _⟩ => ⟨S1x320000, .i32⟩
  | .hbm, ⟨12, _⟩ => ⟨S320000, .i32⟩
  | .hbm, ⟨13, _⟩ => ⟨S5x32x2000, .f32⟩
  | .hbm, ⟨14, _⟩ => ⟨S5x1x2000, .i32⟩
  | .hbm, ⟨15, _⟩ => ⟨S1x128, .f32⟩
  | .hbm, ⟨16, _⟩ => ⟨S1x1, .f32⟩
  | .hbm, ⟨17, _⟩ => ⟨S64x128, .f32⟩
  | .local .tc .vmem, ⟨0, _⟩ => ⟨S2000x128, .f32⟩
  | .local .tc .vmem, ⟨1, _⟩ => ⟨S2000x128, .f32⟩
  | .local .tc .vmem, ⟨2, _⟩ => ⟨S1x128, .f32⟩
  | .local .tc .vmem, ⟨3, _⟩ => ⟨S1x1x2000, .f32⟩
  | .local .tc .vmem, ⟨4, _⟩ => ⟨S1x1x2000, .f32⟩
  | .local .tc .vmem, ⟨5, _⟩ => ⟨S2000x128, .f32⟩
  | .local .tc .vmem, ⟨6, _⟩ => ⟨S2000x128, .f32⟩
  | .local .tc .vmem, ⟨7, _⟩ => ⟨S1x32x2000, .f32⟩
  | .local .tc .vmem, ⟨8, _⟩ => ⟨S1x32x2000, .f32⟩
  | .local .tc .vmem, ⟨9, _⟩ => ⟨S1x1x2000, .i32⟩
  | .local .tc .vmem, ⟨10, _⟩ => ⟨S1x1x2000, .i32⟩
  | .local .tc .vmem, ⟨11, _⟩ => ⟨S1x128, .f32⟩
  | .local .tc .vmem, ⟨12, _⟩ => ⟨S1x1, .f32⟩
  | .local .tc .vmem, ⟨13, _⟩ => ⟨S64x128, .f32⟩
  | .local .tc .vmem, ⟨14, _⟩ => ⟨S64x1, .f32⟩
  | .local .tc .vmem, ⟨15, _⟩ => ⟨S64x1, .f32⟩
  | .local .tc .vmem, ⟨16, _⟩ => ⟨S64x128, .f32⟩
  | .local .scVector .vmem, ⟨0, _⟩ => ⟨S10000, .f32⟩
  | .local .scVector .vmem, ⟨1, _⟩ => ⟨S10000, .i32⟩
  | .local .scVector .vmem, ⟨2, _⟩ => ⟨S10000, .i32⟩
  | .local .scVector .vmem, ⟨3, _⟩ => ⟨S10000, .f32⟩
  | _, _ => ⟨S10000x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 22 → Bool
  | ⟨0, _⟩ => true
  | ⟨1, _⟩ => true
  | ⟨2, _⟩ => true
  | ⟨3, _⟩ => true
  | ⟨4, _⟩ => true
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTables nBuf rfl bufTy 4 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v2_scv : Ref sig .scVector := ⟨.hbm, 8, rfl⟩
abbrev main_v4_scv : Ref sig .scVector := ⟨.hbm, 10, rfl⟩
abbrev main_v6_scv : Ref sig .scVector := ⟨.hbm, 12, rfl⟩
abbrev main_v7_scv : Ref sig .scVector := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc2_stg0_0 : Ref sig .tc := ⟨.vmem, 5, rfl⟩
abbrev cc2_stg0_1 : Ref sig .tc := ⟨.vmem, 6, rfl⟩
abbrev cc2_stg1_0 : Ref sig .tc := ⟨.vmem, 7, rfl⟩
abbrev cc2_stg1_1 : Ref sig .tc := ⟨.vmem, 8, rfl⟩
abbrev cc2_stg2_0 : Ref sig .tc := ⟨.vmem, 9, rfl⟩
abbrev cc2_stg2_1 : Ref sig .tc := ⟨.vmem, 10, rfl⟩
abbrev cc2_stg3_0 : Ref sig .tc := ⟨.vmem, 11, rfl⟩
abbrev cc2_stg4_0 : Ref sig .tc := ⟨.vmem, 12, rfl⟩
abbrev cc2_stg5_0 : Ref sig .tc := ⟨.vmem, 13, rfl⟩
abbrev cc2_scratch0 : Ref sig .tc := ⟨.vmem, 14, rfl⟩
abbrev cc2_scratch1 : Ref sig .tc := ⟨.vmem, 15, rfl⟩
abbrev cc2_scratch2 : Ref sig .tc := ⟨.vmem, 16, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem2_1 : DmaSem sig := 18
abbrev cc2_sem3_0 : DmaSem sig := 19
abbrev cc2_sem4_0 : DmaSem sig := 20
abbrev cc2_sem5_0 : DmaSem sig := 21
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x2000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![2, 16], ![false, false]⟩

def k1_off1 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10000_i32 : BitVec 32 := 10000#32
  let v2 : BitVec 32 := Scalar.muli v1 c10000_i32
  ![v2.toNat]
@[reducible] def k1_t1_loop : Scf.Loop 32 :=
  let c0_i32_0 : BitVec 32 := 0#32
  let c625_i32 : BitVec 32 := 625#32
  let v4 : BitVec 32 := Scalar.addi c0_i32_0 c625_i32
  let c1_i32 : BitVec 32 := 1#32
  ⟨c0_i32_0, v4, c1_i32⟩
def k1_off2 (k1_t1 : Fin k1_t1_loop.trips) : Fin 1 → Nat :=
  let c0_i32_0 : BitVec 32 := 0#32
  let c1_i32 : BitVec 32 := 1#32
  let arg10 : BitVec 32 := Scf.iv c0_i32_0 c1_i32 k1_t1
  let c16_i32 : BitVec 32 := 16#32
  let v6 : BitVec 32 := Scalar.muli arg10 c16_i32
  let v7 : Index := Scalar.indexCast v6
  ![v7.toNat]
@[reducible] def k1_t2_loop : Scf.Loop 32 :=
  let c0_i32_3 : BitVec 32 := 0#32
  let c625_i32_4 : BitVec 32 := 625#32
  let v5 : BitVec 32 := Scalar.addi c0_i32_3 c625_i32_4
  let c1_i32_5 : BitVec 32 := 1#32
  ⟨c0_i32_3, v5, c1_i32_5⟩
def k1_off3 (k1_t2 : Fin k1_t2_loop.trips) : Fin 1 → Nat :=
  let c0_i32_3 : BitVec 32 := 0#32
  let c1_i32_5 : BitVec 32 := 1#32
  let arg10 : BitVec 32 := Scf.iv c0_i32_3 c1_i32_5 k1_t2
  let c16_i32 : BitVec 32 := 16#32
  let v6 : BitVec 32 := Scalar.muli arg10 c16_i32
  let v7 : Index := Scalar.indexCast v6
  ![v7.toNat]

def k1_chk1 (v8 : IVec S16 32) : Prop :=
  (∀ a x, ((![v8] : Fin 1 → IVec S16 32) a x).toNat < S10000.size a)
theorem k1_idx1_inb : ∀ (v8 : IVec S16 32) (k1_hw1 : k1_chk1 v8), ∀ a x, ((![v8] : Fin 1 → IVec S16 32) a x).toNat < S10000.size a := fun v8 k1_hw1 => k1_hw1

def k1_chk2 (v11 : IVec S16 32) : Prop :=
  (∀ a x, ((![v11] : Fin 1 → IVec S16 32) a x).toNat < S10000.size a)
theorem k1_idx2_inb : ∀ (v11 : IVec S16 32) (k1_hw2 : k1_chk2 v11), ∀ a x, ((![v11] : Fin 1 → IVec S16 32) a x).toNat < S10000.size a := fun v11 k1_hw2 => k1_hw2
def k1_off4 (i : grid1.Coords) : Fin 3 → Nat :=
  let c0_i32_7 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_11_r3 : BitVec 32 := 0#32
  ![0, v1.toNat, 0]
def k1_off5 (i : grid1.Coords) : Fin 3 → Nat :=
  let c1_i32_8 : BitVec 32 := 1#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_10_r4 : BitVec 32 := 0#32
  ![1, v1.toNat, 0]
def k1_off6 (i : grid1.Coords) : Fin 3 → Nat :=
  let c2_i32_9 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_10_r5 : BitVec 32 := 0#32
  ![2, v1.toNat, 0]
def k1_off7 (i : grid1.Coords) : Fin 3 → Nat :=
  let c3_i32 : BitVec 32 := 3#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_10_r6 : BitVec 32 := 0#32
  ![3, v1.toNat, 0]
def k1_off8 (i : grid1.Coords) : Fin 3 → Nat :=
  let c4_i32 : BitVec 32 := 4#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_10_r7 : BitVec 32 := 0#32
  ![4, v1.toNat, 0]
abbrev grid2 : Pipeline.Grid := ⟨1, ![5], ![false]⟩

def k2_cond2 (i : grid2.Coords) : BitVec 1 :=
  let arg0 : BitVec 32 := BitVec.ofNat 32 (i 0).val
  let c4_i32 : BitVec 32 := 4#32
  let v67 : BitVec 1 := Scalar.cmpi .eq arg0 c4_i32
  let v68 : BitVec 32 := Scalar.extui v67
  let c0_i32_34 : BitVec 32 := 0#32
  let v69 : BitVec 1 := Scalar.cmpi .ne v68 c0_i32_34
  v69

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1x32x2000 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x1x2000 .i32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S10000x128 : Shape := ⟨2, ![10000, 128]⟩
abbrev S2x320000 : Shape := ⟨2, ![2, 320000]⟩
abbrev S10000 : Shape := ⟨1, ![10000]⟩
abbrev S128x1 : Shape := ⟨2, ![128, 1]⟩
abbrev S1 : Shape := ⟨1, ![1]⟩
abbrev S1x320000 : Shape := ⟨2, ![1, 320000]⟩
abbrev S320000 : Shape := ⟨1, ![320000]⟩
abbrev S_ : Shape := ⟨0, ![]⟩
abbrev S320000x1 : Shape := ⟨2, ![320000, 1]⟩
abbrev S320000x128 : Shape := ⟨2, ![320000, 128]⟩
abbrev S10000x1 : Shape := ⟨2, ![10000, 1]⟩
abbrev S1x1 : Shape := ⟨2, ![1, 1]⟩
abbrev S64 : Shape := ⟨1, ![64]⟩
abbrev S1x64 : Shape := ⟨2, ![1, 64]⟩
abbrev S10000x64 : Shape := ⟨2, ![10000, 64]⟩
abbrev S64x1 : Shape := ⟨2, ![64, 1]⟩
abbrev S64x128 : Shape := ⟨2, ![64, 128]⟩

abbrev nBuf : Space → Nat
  | .hbm => 85
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S2x320000, .i32⟩
  | .hbm, ⟨2, _⟩ => ⟨S10000, .i32⟩
  | .hbm, ⟨3, _⟩ => ⟨S128x1, .f32⟩
  | .hbm, ⟨4, _⟩ => ⟨S1, .f32⟩
  | .hbm, ⟨5, _⟩ => ⟨S128x1, .f32⟩
  | .hbm, ⟨6, _⟩ => ⟨S1x320000, .i32⟩
  | .hbm, ⟨7, _⟩ => ⟨S320000, .i32⟩
  | .hbm, ⟨8, _⟩ => ⟨S1x320000, .i32⟩
  | .hbm, ⟨9, _⟩ => ⟨S320000, .i32⟩
  | .hbm, ⟨10, _⟩ => ⟨S_, .i32⟩
  | .hbm, ⟨11, _⟩ => ⟨S320000, .i32⟩
  | .hbm, ⟨12, _⟩ => ⟨S320000, .i1⟩
  | .hbm, ⟨13, _⟩ => ⟨S_, .i32⟩
  | .hbm, ⟨14, _⟩ => ⟨S320000, .i32⟩
  | .hbm, ⟨15, _⟩ => ⟨S320000, .i32⟩
  | .hbm, ⟨16, _⟩ => ⟨S320000, .i32⟩
  | .hbm, ⟨17, _⟩ => ⟨S320000x1, .i32⟩
  | .hbm, ⟨18, _⟩ => ⟨S320000x128, .f32⟩
  | .hbm, ⟨19, _⟩ => ⟨S_, .f32⟩
  | .hbm, ⟨20, _⟩ => ⟨S10000x128, .f32⟩
  | .hbm, ⟨21, _⟩ => ⟨S320000x1, .i32⟩
  | .hbm, ⟨22, _⟩ => ⟨S10000x128, .f32⟩
  | .hbm, ⟨23, _⟩ => ⟨S10000x1, .f32⟩
  | .hbm, ⟨24, _⟩ => ⟨S1x1, .f32⟩
  | .hbm, ⟨25, _⟩ => ⟨S10000x1, .f32⟩
  | .hbm, ⟨26, _⟩ => ⟨S10000x1, .f32⟩
  | .hbm, ⟨27, _⟩ => ⟨S10000x1, .f32⟩
  | .hbm, ⟨28, _⟩ => ⟨S10000x1, .f32⟩
  | .hbm, ⟨29, _⟩ => ⟨S10000x1, .i32⟩
  | .hbm, ⟨30, _⟩ => ⟨S64, .i32⟩
  | .hbm, ⟨31, _⟩ => ⟨S1x64, .i32⟩
  | .hbm, ⟨32, _⟩ => ⟨S10000x64, .i32⟩
  | .hbm, ⟨33, _⟩ => ⟨S10000x64, .i32⟩
  | .hbm, ⟨34, _⟩ => ⟨S10000x64, .i1⟩
  | .hbm, ⟨35, _⟩ => ⟨S_, .f32⟩
  | .hbm, ⟨36, _⟩ => ⟨S_, .f32⟩
  | .hbm, ⟨37, _⟩ => ⟨S10000x64, .f32⟩
  | .hbm, ⟨38, _⟩ => ⟨S10000x64, .f32⟩
  | .hbm, ⟨39, _⟩ => ⟨S10000x64, .f32⟩
  | .hbm, ⟨40, _⟩ => ⟨S_, .f32⟩
  | .hbm, ⟨41, _⟩ => ⟨S64, .f32⟩
  | .hbm, ⟨42, _⟩ => ⟨S64x1, .f32⟩
  | .hbm, ⟨43, _⟩ => ⟨S64x1, .f32⟩
  | .hbm, ⟨44, _⟩ => ⟨S_, .f32⟩
  | .hbm, ⟨45, _⟩ => ⟨S64x1, .f32⟩
  | .hbm, ⟨46, _⟩ => ⟨S64x1, .i1⟩
  | .hbm, ⟨47, _⟩ => ⟨S_, .f32⟩
  | .hbm, ⟨48, _⟩ => ⟨S_, .f32⟩
  | .hbm, ⟨49, _⟩ => ⟨S64x1, .f32⟩
  | .hbm, ⟨50, _⟩ => ⟨S64x1, .f32⟩
  | .hbm, ⟨51, _⟩ => ⟨S_, .i32⟩
  | .hbm, ⟨52, _⟩ => ⟨S10000, .i32⟩
  | .hbm, ⟨53, _⟩ => ⟨S10000, .i1⟩
  | .hbm, ⟨54, _⟩ => ⟨S_, .i32⟩
  | .hbm, ⟨55, _⟩ => ⟨S10000, .i32⟩
  | .hbm, ⟨56, _⟩ => ⟨S10000, .i32⟩
  | .hbm, ⟨57, _⟩ => ⟨S10000, .i32⟩
  | .hbm, ⟨58, _⟩ => ⟨S10000x1, .i32⟩
  | .hbm, ⟨59, _⟩ => ⟨S10000x1, .f32⟩
  | .hbm, ⟨60, _⟩ => ⟨S10000x1, .f32⟩
  | .hbm, ⟨61, _⟩ => ⟨S10000x1, .f32⟩
  | .hbm, ⟨62, _⟩ => ⟨S_, .f32⟩
  | .hbm, ⟨63, _⟩ => ⟨S64x1, .f32⟩
  | .hbm, ⟨64, _⟩ => ⟨S10000x1, .i32⟩
  | .hbm, ⟨65, _⟩ => ⟨S64x1, .f32⟩
  | .hbm, ⟨66, _⟩ => ⟨S_, .i32⟩
  | .hbm, ⟨67, _⟩ => ⟨S10000, .i32⟩
  | .hbm, ⟨68, _⟩ => ⟨S10000, .i1⟩
  | .hbm, ⟨69, _⟩ => ⟨S_, .i32⟩
  | .hbm, ⟨70, _⟩ => ⟨S10000, .i32⟩
  | .hbm, ⟨71, _⟩ => ⟨S10000, .i32⟩
  | .hbm, ⟨72, _⟩ => ⟨S10000, .i32⟩
  | .hbm, ⟨73, _⟩ => ⟨S10000x1, .i32⟩
  | .hbm, ⟨74, _⟩ => ⟨S10000x1, .f32⟩
  | .hbm, ⟨75, _⟩ => ⟨S_, .f32⟩
  | .hbm, ⟨76, _⟩ => ⟨S10000x1, .f32⟩
  | .hbm, ⟨77, _⟩ => ⟨S10000x1, .f32⟩
  | .hbm, ⟨78, _⟩ => ⟨S10000x1, .f32⟩
  | .hbm, ⟨79, _⟩ => ⟨S10000x128, .f32⟩
  | .hbm, ⟨80, _⟩ => ⟨S10000x128, .f32⟩
  | .hbm, ⟨81, _⟩ => ⟨S_, .f32⟩
  | .hbm, ⟨82, _⟩ => ⟨S64x128, .f32⟩
  | .hbm, ⟨83, _⟩ => ⟨S10000x1, .i32⟩
  | .hbm, ⟨84, _⟩ => ⟨S64x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_1 : Ref sig .tc := ⟨.hbm, 35, rfl⟩
abbrev main_call0_v0 : Ref sig .tc := ⟨.hbm, 36, rfl⟩
abbrev main_call0_v1 : Ref sig .tc := ⟨.hbm, 37, rfl⟩
abbrev main_call0_v2 : Ref sig .tc := ⟨.hbm, 38, rfl⟩
abbrev main_v26 : Ref sig .tc := ⟨.hbm, 39, rfl⟩
abbrev main_cst_2 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_3 : Ref sig .tc := ⟨.hbm, 44, rfl⟩
abbrev main_v30 : Ref sig .tc := ⟨.hbm, 45, rfl⟩
abbrev main_v31 : Ref sig .tc := ⟨.hbm, 46, rfl⟩
abbrev main_cst_4 : Ref sig .tc := ⟨.hbm, 47, rfl⟩
abbrev main_call1_v0 : Ref sig .tc := ⟨.hbm, 48, rfl⟩
abbrev main_call1_v1 : Ref sig .tc := ⟨.hbm, 49, rfl⟩
abbrev main_v32 : Ref sig .tc := ⟨.hbm, 50, rfl⟩
abbrev main_c_5 : Ref sig .tc := ⟨.hbm, 51, rfl⟩
abbrev main_v33 : Ref sig .tc := ⟨.hbm, 52, rfl⟩
abbrev main_v34 : Ref sig .tc := ⟨.hbm, 53, rfl⟩
abbrev main_c_6 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_7 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_c_8 : Ref sig .tc := ⟨.hbm, 66, rfl⟩
abbrev main_v45 : Ref sig .tc := ⟨.hbm, 67, rfl⟩
abbrev main_v46 : Ref sig .tc := ⟨.hbm, 68, rfl⟩
abbrev main_c_9 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst_10 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_11 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩

abbrev nD : Nat := 1
abbrev τ : Topo := Topo.v7x

variable {F : FTy → Type} [FloatOps F]
-- ==== Proof.Pre.lean ====
/-
  What the preconditions say, read off the printed predicates: every edge endpoint names one of the 10000 nodes,
  and (at the extended reals) the features and the weights that the edges carry are real numbers.
-/
module

public import proofs.«01_k».proof.Defs
public import proofs.«01_k».proof.Proof.Gen.Pre_edges
public import proofs.«01_k».proof.Proof.Gen.Pre_tame
public import Idealize.ShloMosaic.Lib.WordCmp
public import Idealize.ShloMosaic.PureOps.Reduce

@[expose] public section

noncomputable section

namespace Cert.Proof.Pre

open Idealize.ShloMosaic Idealize.ShloMosaic.WordCmp

/-- A bitwise "and" fold that ends in `1` started at `1` and met only ones. -/
theorem fold_andi_eq_one {ι : Type} [DecidableEq ι] (S : Finset ι) (b : BitVec 1) (x : ι → BitVec 1)
    (e : S.fold IntOp.andi b x = 1#1) : ∀ i ∈ S, x i = 1#1 := by
  induction S using Finset.cons_induction with
  | empty => simp
  | cons a S ha ih =>
    rw [Finset.fold_cons] at e
    have key : ∀ u v : BitVec 1, IntOp.andi u v = 1#1 → u = 1#1 ∧ v = 1#1 := by decide
    obtain ⟨h1, h2⟩ := key _ _ e
    intro i hi
    rcases Finset.mem_cons.1 hi with rfl | hi
    · exact h1
    · exact ih h2 i hi

/-- The conjunction of two words of one bit. -/
theorem andi_eq_one {u v : BitVec 1} (e : IntOp.andi u v = 1#1) : u = 1#1 ∧ v = 1#1 := by
  revert u v; decide

/-- "all" of an array of bits: the reduction to a scalar is one only where every element is. -/
theorem all_of_reduce {s t u : Shape} {axes : List (Fin s.rank)} (x : IVec s 1) (init : IVec u 1) (h : s.ReducesTo axes t)
    (hu : 0 < u.numel) (j : t.Idx) (hj : ∀ j' : t.Idx, j' = j) (e : Host.reduce IntOp.andi x init h hu j = 1#1) (i : s.Idx) :
    x i = 1#1 := by
  classical
  rw [Host.reduce_eq_fold] at e
  exact fold_andi_eq_one _ _ _ e i (Finset.mem_filter.2 ⟨Finset.mem_univ _, hj _⟩)

/-- A word that is signed at least `0` and signed below a small `k` is, unsigned, below `k`. -/
theorem lt_of_cmp {x : BitVec 32} {k : Nat} (hk : k < 2 ^ 31) (h0 : IntOp.cmpi .sge x 0#32 = 1#1)
    (h1 : IntOp.cmpi .slt x (BitVec.ofNat 32 k) = 1#1) : x.toNat < k := by
  rw [cmpi_sge_zero, ofBool_decide_eq_one_iff] at h0
  rw [cmpi_slt_eq, ofBool_decide_eq_one_iff, toInt_ofNat_of_lt hk, toInt_eq_toNat_of_lt_half h0] at h1
  exact_mod_cast h1

/-- The pattern of +∞ denotes `⊤`. -/
theorem ofBits_inf : Ideal.ofBits .f32 0x7F800000#32 = ⊤ := by
  simp [Ideal.ofBits, Ideal.ieee]

/-- A value whose absolute value is below +∞ is a real number. -/
theorem real_of_abs_lt {x : EReal} (h : Ideal.cmp .olt (max x (-x)) (Ideal.ofBits .f32 0x7F800000#32) = 1#1) : ∃ r : ℝ, x = r := by
  rw [ofBits_inf] at h
  have h' : max x (-x) < ⊤ := (ofBool_decide_eq_one_iff _).1 h
  induction x using EReal.rec with
  | bot => simp at h'
  | top => simp at h'
  | coe r => exact ⟨r, rfl⟩

theorem edges_lt {F : FTy → Type} [FloatOps F] {a0 : FVec F Pre_edges.S10000x128 .f32} {a1 : IVec Pre_edges.S2x320000 32} {a2 : IVec Pre_edges.S10000 32}
    {a3 : FVec F Pre_edges.S128x1 .f32} {a4 : FVec F Pre_edges.S1 .f32} {a5 : FVec F Pre_edges.S128x1 .f32}
    (e : letI := Pre_edges.Gen.facts; Pre_edges.fn (F := F) a0 a1 a2 a3 a4 a5 = fun _ => 1#1) (j : Pre_edges.S2x320000.Idx) : (a1 j).toNat < 10000 := by
  have e := congrFun e (fun a => a.elim0)
  simp only [Pre_edges.fn, andi] at e
  obtain ⟨h0, h1⟩ := andi_eq_one e
  have h0 := all_of_reduce _ _ _ _ _ (fun _ => funext fun a => a.elim0) h0 j
  have h1 := all_of_reduce _ _ _ _ _ (fun _ => funext fun a => a.elim0) h1 j
  exact lt_of_cmp (by decide) h0 h1

/-- What `tame` says of the six arguments. -/
structure Tame (a0 : FVec Ideal Pre_tame.S10000x128 .f32) (a1 : IVec Pre_tame.S2x320000 32) (a2 : IVec Pre_tame.S10000 32)
    (a3 : FVec Ideal Pre_tame.S128x1 .f32) (a4 : FVec Ideal Pre_tame.S1 .f32) (a5 : FVec Ideal Pre_tame.S128x1 .f32) : Prop where
  edges : ∀ j, (a1 j).toNat < 10000
  real0 : ∀ j, ∃ r : ℝ, a0 j = (r : EReal)
  real3 : ∀ j, ∃ r : ℝ, a3 j = (r : EReal)

theorem tame_of {a0 : FVec Ideal Pre_tame.S10000x128 .f32} {a1 : IVec Pre_tame.S2x320000 32} {a2 : IVec Pre_tame.S10000 32}
    {a3 : FVec Ideal Pre_tame.S128x1 .f32} {a4 : FVec Ideal Pre_tame.S1 .f32} {a5 : FVec Ideal Pre_tame.S128x1 .f32}
    (e : letI := Pre_tame.Gen.facts; Pre_tame.fn (F := Ideal) a0 a1 a2 a3 a4 a5 = fun _ => 1#1) : Tame a0 a1 a2 a3 a4 a5 := by
  have e := congrFun e (fun a => a.elim0)
  simp only [Pre_tame.fn, Pre_tame.fn_part1, andi] at e
  obtain ⟨e, h3⟩ := andi_eq_one e
  obtain ⟨e, h0⟩ := andi_eq_one e
  obtain ⟨he0, he1⟩ := andi_eq_one e
  have hj : ∀ j' : Pre_tame.S_.Idx, j' = (fun a => a.elim0) := fun _ => funext fun a => a.elim0
  exact ⟨fun j => lt_of_cmp (by decide) (all_of_reduce _ _ _ _ _ hj he0 j) (all_of_reduce _ _ _ _ _ hj he1 j),
    fun j => real_of_abs_lt (all_of_reduce _ _ _ _ _ hj h0 j), fun j => real_of_abs_lt (all_of_reduce _ _ _ _ _ hj h3 j)⟩

end Cert.Proof.Pre

end
-- ==== Proof.KI.Setup.lean ====
/-
  The kernel as the launch theorem sees it: the SparseCore call and the two TensorCore pipelines over one signature,
  and the resource algebra — the handshakes' rounds, the pipelines' rounds, the transfers' counters. Everything is
  generic in the float instance; the modules under `Proof/KI` are these with the namespace replaced.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import Idealize.ShloMosaic.Lib.Writes
public import proofs.«01_k».proof.Proof.Gen.KernelIdeal
public import proofs.«01_k».proof.Proof.Gen.KernelIdeal.Skeleton

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program -/

/-- The labels of the two pipelines. -/
abbrev ΛP : Labels := Pipeline.Sig Λ₀ (Fin 2) fun p => (pcfgs (F := F) p).Adm
/-- The SparseCore calls: the one edge-scatter kernel. -/
abbrev K : SparseCore.Cfg τ sig (ΛP (F := F)) 1 := sc (F := F)
/-- The body table with the pipelines' own labels. -/
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

/-- The handshakes' rounds. -/
abbrev UH : Type := URounds (GSem nD τ sig) ℕ
/-- The pipelines' rounds. -/
abbrev UP : Type := URounds (GSem nD τ sig) Unit
/-- Beside them, the counters of the tiles' transfers. -/
abbrev UU : Type := UH × (UP × Counters)

abbrev EH : Emb UH (MT nD τ sig (HIx 1) (Elt F) ℕ UU ℕ) := embL
abbrev ER : Emb (UP × Counters) (MT nD τ sig (HIx 1) (Elt F) ℕ UU ℕ) := embR
def EP : Emb UP (MT nD τ sig (HIx 1) (Elt F) ℕ UU ℕ) := (Emb.inl : Emb UP (UP × Counters)).trans ER

instance EP_landsIn : (EP : Emb UP (MT nD τ sig (HIx 1) (Elt F) ℕ UU ℕ)).LandsIn (upEmb : UEmb _ (MT nD τ sig (HIx 1) (Elt F) ℕ UU ℕ)) := by
  unfold EP ER embR; infer_instance

end Cert.Proof.KI

end
-- ==== Proof.KI.Spec.lean ====
/-
  What one tile computes, as pure functions of the arrays it reads: its chunk of the edges, and its accumulator row
  after the first `n` groups of sixteen edges.
-/
module

public import proofs.«01_k».proof.Proof.KI.Setup

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx Pay ownBufs scopedBufs_V scopedSems0_V ownSems0 ownCells mem_ownCells ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-- The words `16k … 16k+15` of a row of ten thousand. -/
def grp {α : Type} (s : S10000.Idx → α) (k : Fin k1_t2_loop.trips) : S16.Idx → α :=
  fun x => s ((Rect.unit (s := S10000) (k1_off3 k) S16.size (k1_off3_inb k)).toLoadRect.idx x)

theorem chk1_of {s : S10000.Idx → BitVec 32} (hs : ∀ j, (s j).toNat < 10000) (k : Fin k1_t2_loop.trips) : k1_chk1 (grp s k) := by
  intro a x
  obtain rfl : a = 0 := Subsingleton.elim _ _
  exact hs _

theorem chk2_of {s : S10000.Idx → BitVec 32} (hs : ∀ j, (s j).toNat < 10000) (k : Fin k1_t2_loop.trips) : k1_chk2 (grp s k) := by
  intro a x
  obtain rfl : a = 0 := Subsingleton.elim _ _
  exact hs _

/-- One group of sixteen edges: `y` gathered at the sources, added into `a` at the targets. -/
def accStep (y : S10000.Idx → Elt F .f32) (s d : S10000.Idx → BitVec 32) (hs : ∀ j, (s j).toNat < 10000) (hd : ∀ j, (d j).toNat < 10000)
    (k : Fin k1_t2_loop.trips) (a : S10000.Idx → Elt F .f32) : S10000.Idx → Elt F .f32 :=
  storeIdx (s := S10000) (e := .f32) a ![grp d k] (loadIdx (s := S10000) (e := .f32) y ![grp s k] (k1_idx1_inb _ (chk1_of hs k)))
    (fun _ => 1#1) true (k1_idx2_inb _ (chk2_of hd k))

/-- The word the accumulator starts from. -/
def zeroW : Elt F .f32 := (Scalar.ofBits .f32 0x00000000#32 : F .f32)

/-- The accumulator after `n` groups, from zeros. -/
def accK (y : S10000.Idx → Elt F .f32) (s d : S10000.Idx → BitVec 32) (hs : ∀ j, (s j).toNat < 10000) (hd : ∀ j, (d j).toNat < 10000) :
    ℕ → S10000.Idx → Elt F .f32
  | 0 => fun _ => zeroW
  | n + 1 => if h : n < k1_t2_loop.trips then accStep y s d hs hd ⟨n, h⟩ (accK y s d hs hd n) else accK y s d hs hd n

theorem accK_succ (y : S10000.Idx → Elt F .f32) (s d : S10000.Idx → BitVec 32) (hs : ∀ j, (s j).toNat < 10000) (hd : ∀ j, (d j).toNat < 10000)
    (k : Fin k1_t2_loop.trips) : accK y s d hs hd (k.val + 1) = accStep y s d hs hd k (accK y s d hs hd k.val) := by
  show (if h : k.val < k1_t2_loop.trips then _ else _) = _
  rw [dif_pos k.isLt]

/-- A tile's chunk of an edge list: ten thousand words. -/
def chunk {α : Type} (L : grid1.Coords) (f : S320000.Idx → α) : S10000.Idx → α :=
  fun j => f ((Rect.unit (s := S320000) (k1_off1 L) S10000.size (k1_off1_inb L)).toLoadRect.idx j)

theorem chunk_lt {L : grid1.Coords} {f : S320000.Idx → BitVec 32} (h : ∀ j, (f j).toNat < 10000) : ∀ j, (chunk L f j).toNat < 10000 :=
  fun _ => h _

/-- A tile's accumulator at the end. -/
def accFin (y : S10000.Idx → Elt F .f32) (fs fd : S320000.Idx → BitVec 32) (hs : ∀ j, (fs j).toNat < 10000) (hd : ∀ j, (fd j).toNat < 10000)
    (L : grid1.Coords) : S10000.Idx → Elt F .f32 :=
  accK y (chunk L fs) (chunk L fd) (chunk_lt hs) (chunk_lt hd) k1_t2_loop.trips

/-- The tile whose row of the partial sums is row `w`: core `w % 2`, subcore `w / 2`. -/
def tileOf (w : Fin 32) : grid1.Coords :=
  fun | 0 => ⟨w.val % 2, Nat.mod_lt _ (by decide)⟩
      | 1 => ⟨w.val / 2, by have := w.isLt; show w.val / 2 < 16; omega⟩
      | ⟨_ + 2, h⟩ => absurd h (Nat.not_lt.2 (Nat.le_add_left _ _))

/-- The partial sums, every tile's row: block `j`, row `w`, column `c` is tile `w`'s accumulator at `2000j + c`. -/
def partsOf (y : S10000.Idx → Elt F .f32) (fs fd : S320000.Idx → BitVec 32) (hs : ∀ j, (fs j).toNat < 10000) (hd : ∀ j, (fd j).toNat < 10000) :
    S5x32x2000.Idx → Elt F .f32 := fun x =>
  accFin y fs fd hs hd (tileOf (x 1))
    (fun a => ⟨2000 * (x 0).val + (x 2).val, by
      have h0 : (x 0).val < 5 := (x 0).isLt
      have h2 : (x 2).val < 2000 := (x 2).isLt
      obtain rfl : a = 0 := Subsingleton.elim _ _
      show _ < 10000
      omega⟩)

end Cert.Proof.KI

end
-- ==== Proof.KI.Tile.lean ====
/-
  The SparseCore task at a symbolic tile: three fetches, the accumulator zeroed, the edges gathered and scattered sixteen
  at a time, five rows written out. The run carries the accumulator's contents (`accK`).
-/
module

public import proofs.«01_k».proof.Proof.KI.Spec

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx Pay ownBufs scopedBufs_V scopedSems0_V ownSems0 ownCells mem_ownCells ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

abbrev coordsV (c : Fin (grid1.bound 0)) (s : Fin (grid1.bound 1)) : grid1.Coords :=
  fun | 0 => c | 1 => s | ⟨_ + 2, h⟩ => absurd h (Nat.not_lt.2 (Nat.le_add_left _ _))

abbrev yM : Memref sig .scVector .hbm S10000 .f32 := Memref.whole main_v2_scv
abbrev sM : Memref sig .scVector .hbm S320000 .i32 := Memref.whole main_v4_scv
abbrev dM : Memref sig .scVector .hbm S320000 .i32 := Memref.whole main_v6_scv
abbrev oM : Memref sig .scVector .hbm S5x32x2000 .f32 := Memref.whole main_v7_scv
/-- The task's scratch: the fetched node values, its sources, its targets, its accumulator. -/
abbrev yT : Memref sig .scVector .vmem S10000 .f32 := Memref.whole cc1_scratch0
abbrev sT : Memref sig .scVector .vmem S10000 .i32 := Memref.whole cc1_scratch1
abbrev dT : Memref sig .scVector .vmem S10000 .i32 := Memref.whole cc1_scratch2
abbrev aT : Memref sig .scVector .vmem S10000 .f32 := Memref.whole cc1_scratch3
/-- The task's row of block 0 of the partial sums, as the task slices it. -/
abbrev oSl0 (L : grid1.Coords) : Memref sig .scVector .hbm S2000 .f32 :=
  ((oM : Memref sig .scVector .hbm S5x32x2000 .f32).slice (Rect.unit (s := S5x32x2000) (k1_off4 L) ![1, 1, 2000] (k1_off4_inb L)) (fun _ => rfl)).squeeze S2000 squeezes_S1x1x2000_S2000
/-- The task's row of block 1 of the partial sums, as the task slices it. -/
abbrev oSl1 (L : grid1.Coords) : Memref sig .scVector .hbm S2000 .f32 :=
  ((oM : Memref sig .scVector .hbm S5x32x2000 .f32).slice (Rect.unit (s := S5x32x2000) (k1_off5 L) ![1, 1, 2000] (k1_off5_inb L)) (fun _ => rfl)).squeeze S2000 squeezes_S1x1x2000_S2000
/-- The task's row of block 2 of the partial sums, as the task slices it. -/
abbrev oSl2 (L : grid1.Coords) : Memref sig .scVector .hbm S2000 .f32 :=
  ((oM : Memref sig .scVector .hbm S5x32x2000 .f32).slice (Rect.unit (s := S5x32x2000) (k1_off6 L) ![1, 1, 2000] (k1_off6_inb L)) (fun _ => rfl)).squeeze S2000 squeezes_S1x1x2000_S2000
/-- The task's row of block 3 of the partial sums, as the task slices it. -/
abbrev oSl3 (L : grid1.Coords) : Memref sig .scVector .hbm S2000 .f32 :=
  ((oM : Memref sig .scVector .hbm S5x32x2000 .f32).slice (Rect.unit (s := S5x32x2000) (k1_off7 L) ![1, 1, 2000] (k1_off7_inb L)) (fun _ => rfl)).squeeze S2000 squeezes_S1x1x2000_S2000
/-- The task's row of block 4 of the partial sums, as the task slices it. -/
abbrev oSl4 (L : grid1.Coords) : Memref sig .scVector .hbm S2000 .f32 :=
  ((oM : Memref sig .scVector .hbm S5x32x2000 .f32).slice (Rect.unit (s := S5x32x2000) (k1_off8 L) ![1, 1, 2000] (k1_off8_inb L)) (fun _ => rfl)).squeeze S2000 squeezes_S1x1x2000_S2000

/-! ## The contents the run leaves, as the pure functions of `Spec` -/

theorem trips1 : Scf.trips k1_t1_loop.lb k1_t1_loop.ub k1_t1_loop.st = 625 := by decide +kernel

/-- Storing zeros at group `k` extends the zeroed prefix. -/
theorem zero_step (k : Fin k1_t1_loop.trips) (f : S10000.Idx → Elt F .f32) (hf : ∀ j : S10000.Idx, (j 0).val < 16 * k.val → f j = zeroW) :
    ∀ j : S10000.Idx, (j 0).val < 16 * (k.val + 1) →
      ((aT).view.writes (Elt F) (f : (aT).view.ty.Contents (Elt F)) [⟨Rect.unit (s := S10000) (k1_off2 k) S16.size (k1_off2_inb k), k1_pay1 (F := F)⟩]
        : (aT).view.ty.Contents (Elt F)) j = (zeroW (F := F) : Elt F .f32) := by
  intro j hj
  rw [View.writes_singleton]
  by_cases hm : j ∈ ((aT).view.slice (Rect.unit (s := S10000) (k1_off2 k) S16.size (k1_off2_inb k))).set
  · obtain ⟨x, -, rfl⟩ := Finset.mem_map.mp hm
    rw [View.write_emb_of_mem _ _ (Finset.mem_univ x)]
    rfl
  · rw [View.write_of_not_mem _ _ _ hm]
    refine hf j (Nat.lt_of_not_le fun h => hm (Finset.mem_map.mpr ⟨fun a => ⟨(j 0).val - 16 * k.val, ?_⟩, Finset.mem_univ _, ?_⟩))
    · obtain rfl : a = 0 := Subsingleton.elim _ _
      show _ < 16
      omega
    · funext a
      obtain rfl : a = 0 := Subsingleton.elim _ _
      apply Fin.ext
      show k1_off2 k 0 + 1 * ((j 0).val - 16 * k.val) = (j 0).val
      rw [k1_off2_eq]
      show 16 * k.val + 1 * ((j 0).val - 16 * k.val) = (j 0).val
      omega

/-- The squeezed row of a block, index by index. -/
theorem squeeze_idx (h : S2000.numel = S1x1x2000.numel) (x : S2000.Idx) :
    Shape.reshapeEquiv h x = Fin.cons ⟨0, Nat.one_pos⟩ (Fin.cons ⟨0, Nat.one_pos⟩ x) := by
  have h1 : S2000.numel = (⟨2, ![1, 2000]⟩ : Shape).numel := by decide
  have h2 : (⟨2, ![1, 2000]⟩ : Shape).numel = S1x1x2000.numel := by decide
  rw [← Shape.reshapeEquiv_reshapeEquiv h2 h1, Shape.reshapeEquiv_cons_one h1, Shape.reshapeEquiv_cons_one h2]
  rfl

theorem oSl0_emb (L : grid1.Coords) (x : S2000.Idx) :
    ((((oSl0 L).view.emb x : S5x32x2000.Idx) 0).val = 0 ∧ (((oSl0 L).view.emb x : S5x32x2000.Idx) 1).val = 2 * (L 1).val + (L 0).val)
      ∧ (((oSl0 L).view.emb x : S5x32x2000.Idx) 2).val = (x 0).val := by
  have e : (oSl0 L).view.emb x = (Rect.unit (s := S5x32x2000) (k1_off4 L) ![1, 1, 2000] (k1_off4_inb L)).emb
      (Shape.reshapeEquiv squeezes_S1x1x2000_S2000.numel_eq x) := rfl
  rw [e, squeeze_idx]
  refine ⟨⟨?_, ?_⟩, ?_⟩
  · show k1_off4 L 0 + 1 * 0 = 0
    rw [k1_off4_eq]; rfl
  · show k1_off4 L 1 + 1 * 0 = _
    rw [k1_off4_eq]; rfl
  · show k1_off4 L 2 + 1 * (x 0).val = _
    rw [k1_off4_eq]; show 0 + 1 * (x 0).val = _; omega

theorem oSl1_emb (L : grid1.Coords) (x : S2000.Idx) :
    ((((oSl1 L).view.emb x : S5x32x2000.Idx) 0).val = 1 ∧ (((oSl1 L).view.emb x : S5x32x2000.Idx) 1).val = 2 * (L 1).val + (L 0).val)
      ∧ (((oSl1 L).view.emb x : S5x32x2000.Idx) 2).val = (x 0).val := by
  have e : (oSl1 L).view.emb x = (Rect.unit (s := S5x32x2000) (k1_off5 L) ![1, 1, 2000] (k1_off5_inb L)).emb
      (Shape.reshapeEquiv squeezes_S1x1x2000_S2000.numel_eq x) := rfl
  rw [e, squeeze_idx]
  refine ⟨⟨?_, ?_⟩, ?_⟩
  · show k1_off5 L 0 + 1 * 0 = 1
    rw [k1_off5_eq]; rfl
  · show k1_off5 L 1 + 1 * 0 = _
    rw [k1_off5_eq]; rfl
  · show k1_off5 L 2 + 1 * (x 0).val = _
    rw [k1_off5_eq]; show 0 + 1 * (x 0).val = _; omega

theorem oSl2_emb (L : grid1.Coords) (x : S2000.Idx) :
    ((((oSl2 L).view.emb x : S5x32x2000.Idx) 0).val = 2 ∧ (((oSl2 L).view.emb x : S5x32x2000.Idx) 1).val = 2 * (L 1).val + (L 0).val)
      ∧ (((oSl2 L).view.emb x : S5x32x2000.Idx) 2).val = (x 0).val := by
  have e : (oSl2 L).view.emb x = (Rect.unit (s := S5x32x2000) (k1_off6 L) ![1, 1, 2000] (k1_off6_inb L)).emb
      (Shape.reshapeEquiv squeezes_S1x1x2000_S2000.numel_eq x) := rfl
  rw [e, squeeze_idx]
  refine ⟨⟨?_, ?_⟩, ?_⟩
  · show k1_off6 L 0 + 1 * 0 = 2
    rw [k1_off6_eq]; rfl
  · show k1_off6 L 1 + 1 * 0 = _
    rw [k1_off6_eq]; rfl
  · show k1_off6 L 2 + 1 * (x 0).val = _
    rw [k1_off6_eq]; show 0 + 1 * (x 0).val = _; omega

theorem oSl3_emb (L : grid1.Coords) (x : S2000.Idx) :
    ((((oSl3 L).view.emb x : S5x32x2000.Idx) 0).val = 3 ∧ (((oSl3 L).view.emb x : S5x32x2000.Idx) 1).val = 2 * (L 1).val + (L 0).val)
      ∧ (((oSl3 L).view.emb x : S5x32x2000.Idx) 2).val = (x 0).val := by
  have e : (oSl3 L).view.emb x = (Rect.unit (s := S5x32x2000) (k1_off7 L) ![1, 1, 2000] (k1_off7_inb L)).emb
      (Shape.reshapeEquiv squeezes_S1x1x2000_S2000.numel_eq x) := rfl
  rw [e, squeeze_idx]
  refine ⟨⟨?_, ?_⟩, ?_⟩
  · show k1_off7 L 0 + 1 * 0 = 3
    rw [k1_off7_eq]; rfl
  · show k1_off7 L 1 + 1 * 0 = _
    rw [k1_off7_eq]; rfl
  · show k1_off7 L 2 + 1 * (x 0).val = _
    rw [k1_off7_eq]; show 0 + 1 * (x 0).val = _; omega

theorem oSl4_emb (L : grid1.Coords) (x : S2000.Idx) :
    ((((oSl4 L).view.emb x : S5x32x2000.Idx) 0).val = 4 ∧ (((oSl4 L).view.emb x : S5x32x2000.Idx) 1).val = 2 * (L 1).val + (L 0).val)
      ∧ (((oSl4 L).view.emb x : S5x32x2000.Idx) 2).val = (x 0).val := by
  have e : (oSl4 L).view.emb x = (Rect.unit (s := S5x32x2000) (k1_off8 L) ![1, 1, 2000] (k1_off8_inb L)).emb
      (Shape.reshapeEquiv squeezes_S1x1x2000_S2000.numel_eq x) := rfl
  rw [e, squeeze_idx]
  refine ⟨⟨?_, ?_⟩, ?_⟩
  · show k1_off8 L 0 + 1 * 0 = 4
    rw [k1_off8_eq]; rfl
  · show k1_off8 L 1 + 1 * 0 = _
    rw [k1_off8_eq]; rfl
  · show k1_off8 L 2 + 1 * (x 0).val = _
    rw [k1_off8_eq]; show 0 + 1 * (x 0).val = _; omega

theorem tileOf_row (L : grid1.Coords) (w : Fin 32) (h : w.val = 2 * (L 1).val + (L 0).val) : tileOf w = L := by
  have h0 : (L 0).val < 2 := (L 0).isLt
  funext a
  fin_cases a
  · apply Fin.ext; show w.val % 2 = (L 0).val; omega
  · apply Fin.ext; show w.val / 2 = (L 1).val; omega

/-- The partial sums at an element of block `j`, row of task `L`: the task's accumulator at `2000j + c`. -/
theorem partsOf_at (y : S10000.Idx → Elt F .f32) (fs fd : S320000.Idx → BitVec 32) (hs : ∀ j, (fs j).toNat < 10000) (hd : ∀ j, (fd j).toNat < 10000)
    (L : grid1.Coords) (z : S5x32x2000.Idx) (c : S10000.Idx) (h1 : (z 1).val = 2 * (L 1).val + (L 0).val)
    (hc : (c 0).val = 2000 * (z 0).val + (z 2).val) : partsOf y fs fd hs hd z = accFin y fs fd hs hd L c := by
  unfold partsOf
  rw [tileOf_row L (z 1) h1]
  congr 1
  funext a
  obtain rfl : a = 0 := Subsingleton.elim _ _
  exact Fin.ext hc.symm

/-- A view's elements after a whole-view store are any contents that read the stored vector. -/
theorem pts_writes_whole {c : Thread nD τ} {sp : Space} {s : Shape} {e : EltTy} (v : View sig c.2.kind sp s e) (f g : Buf (Elt F) (v.loc c))
    (w : s.Idx → Elt F e) (hg : v.read (Elt F) g = w) :
    (v.loc c ↦[v.set]{fullShare} (v.writes (Elt F) f [⟨Rect.whole s, w⟩] : Buf (Elt F) (v.loc c)) : sProp (MT nD τ sig (HIx 1) (Elt F) ℕ UU ℕ))
      = (v.loc c ↦[v.set]{fullShare} g) :=
  pointsTo_congr fun i hi => by
    obtain ⟨x, -, rfl⟩ := Finset.mem_map.mp hi
    have h := View.read_writes_cons_emb (Val := Elt F) v f (Rect.whole s) w [] x
    rw [Rect.emb_whole_apply, ← congrFun hg x, View.read_apply, View.read_apply] at h
    exact (cast_inj _).mp h

section Body

variable (d : Dev nD) (L : grid1.Coords)

abbrev cV : Fin τ.nSC := (L 0).castLE hcore1
abbrev jV : Fin τ.nSub := (L 1).castLE hsub1
abbrev thr : Thread nD τ := V d (cV L) (jV L)
abbrev cell (s : DmaSems sig S_) : GSem nD τ sig := (thr d L, .dma s.sem)

omit [FloatOps F] in
theorem cell_ne {s t : DmaSems sig S_} (h : s.sem ≠ t.sem) : cell d L s ≠ cell d L t :=
  fun e => h (SemLoc.dma.inj (Prod.ext_iff.mp e).2)

omit [FloatOps F] in
theorem ownSems0_V : (ownSems0 (thr d L) : sProp (MT nD τ sig (HIx 1) (Elt F) ℕ UU ℕ))
      = iprop(semVal (cell d L cc1_scoped0) 0 ∗ semVal (cell d L cc1_scoped1) 0 ∗ semVal (cell d L cc1_scoped2) 0 ∗ semVal (cell d L cc1_scoped3) 0 ∗ semVal (cell d L cc1_scoped4) 0 ∗ semVal (cell d L cc1_scoped5) 0 ∗ semVal (cell d L cc1_scoped6) 0 ∗ semVal (cell d L cc1_scoped7) 0
          ∗ bigSep (((((((((ownCells (thr d L)).erase (cell d L cc1_scoped0)).erase (cell d L cc1_scoped1)).erase (cell d L cc1_scoped2)).erase (cell d L cc1_scoped3)).erase (cell d L cc1_scoped4)).erase (cell d L cc1_scoped5)).erase (cell d L cc1_scoped6)).erase (cell d L cc1_scoped7)) fun g => semVal g 0) := by
  unfold SparseCore.Cfg.ownSems0
  rw [SparseCore.bigSep_erase' ((mem_ownCells (g := cell d L cc1_scoped0)).mpr ⟨rfl, by show (SemLoc.dma cc1_scoped0.sem : SemLoc sig).isScoped .scVector = true; decide⟩),
    SparseCore.bigSep_erase' (Finset.mem_erase.mpr ⟨cell_ne d L (by decide), (mem_ownCells (g := cell d L cc1_scoped1)).mpr ⟨rfl, by show (SemLoc.dma cc1_scoped1.sem : SemLoc sig).isScoped .scVector = true; decide⟩⟩),
    SparseCore.bigSep_erase' (Finset.mem_erase.mpr ⟨cell_ne d L (by decide), Finset.mem_erase.mpr ⟨cell_ne d L (by decide), (mem_ownCells (g := cell d L cc1_scoped2)).mpr ⟨rfl, by show (SemLoc.dma cc1_scoped2.sem : SemLoc sig).isScoped .scVector = true; decide⟩⟩⟩),
    SparseCore.bigSep_erase' (Finset.mem_erase.mpr ⟨cell_ne d L (by decide), Finset.mem_erase.mpr ⟨cell_ne d L (by decide), Finset.mem_erase.mpr ⟨cell_ne d L (by decide), (mem_ownCells (g := cell d L cc1_scoped3)).mpr ⟨rfl, by show (SemLoc.dma cc1_scoped3.sem : SemLoc sig).isScoped .scVector = true; decide⟩⟩⟩⟩),
    SparseCore.bigSep_erase' (Finset.mem_erase.mpr ⟨cell_ne d L (by decide), Finset.mem_erase.mpr ⟨cell_ne d L (by decide), Finset.mem_erase.mpr ⟨cell_ne d L (by decide), Finset.mem_erase.mpr ⟨cell_ne d L (by decide), (mem_ownCells (g := cell d L cc1_scoped4)).mpr ⟨rfl, by show (SemLoc.dma cc1_scoped4.sem : SemLoc sig).isScoped .scVector = true; decide⟩⟩⟩⟩⟩),
    SparseCore.bigSep_erase' (Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), (mem_ownCells (g := cell d L cc1_scoped5)).mpr ⟨rfl, by show (SemLoc.dma cc1_scoped5.sem : SemLoc sig).isScoped .scVector = true; decide⟩⟩⟩⟩⟩⟩),
    SparseCore.bigSep_erase' (Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), (mem_ownCells (g := cell d L cc1_scoped6)).mpr ⟨rfl, by show (SemLoc.dma cc1_scoped6.sem : SemLoc sig).isScoped .scVector = true; decide⟩⟩⟩⟩⟩⟩⟩),
    SparseCore.bigSep_erase' (Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), (mem_ownCells (g := cell d L cc1_scoped7)).mpr ⟨rfl, by show (SemLoc.dma cc1_scoped7.sem : SemLoc sig).isScoped .scVector = true; decide⟩⟩⟩⟩⟩⟩⟩⟩)]

omit [FloatOps F] in
theorem ownBufs_V : (ownBufs (thr d L) : sProp (MT nD τ sig (HIx 1) (Elt F) ℕ UU ℕ))
      = iprop((∃ f, (thr d L).loc cc1_scratch0 ↦{fullShare} f) ∗ (∃ f, (thr d L).loc cc1_scratch1 ↦{fullShare} f) ∗ (∃ f, (thr d L).loc cc1_scratch2 ↦{fullShare} f) ∗ (∃ f, (thr d L).loc cc1_scratch3 ↦{fullShare} f)
          ∗ bigSep (((((ownRefs (τ := τ) (.scVector (cV L) (jV L))).erase ((Proc.scVector (cV L) (jV L)).devRef cc1_scratch0)).erase ((Proc.scVector (cV L) (jV L)).devRef cc1_scratch1)).erase ((Proc.scVector (cV L) (jV L)).devRef cc1_scratch2)).erase ((Proc.scVector (cV L) (jV L)).devRef cc1_scratch3)) fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L)) (b := (Proc.scVector (cV L) (jV L)).devRef cc1_scratch0) rfl)).trans ?_
  rw [SparseCore.bigSep_erase' (Finset.mem_erase.mpr ⟨fun e => absurd (Proc.devRef_injective _ e) (show (cc1_scratch1 : Ref sig .scVector) ≠ cc1_scratch0 by decide), SparseCore.Cfg.mem_ownRefs_of_owner (p := Proc.scVector (cV L) (jV L)) (b := (Proc.scVector (cV L) (jV L)).devRef cc1_scratch1) rfl⟩),
    SparseCore.bigSep_erase' (Finset.mem_erase.mpr ⟨fun e => absurd (Proc.devRef_injective _ e) (show (cc1_scratch2 : Ref sig .scVector) ≠ cc1_scratch1 by decide), Finset.mem_erase.mpr ⟨fun e => absurd (Proc.devRef_injective _ e) (show (cc1_scratch2 : Ref sig .scVector) ≠ cc1_scratch0 by decide), SparseCore.Cfg.mem_ownRefs_of_owner (p := Proc.scVector (cV L) (jV L)) (b := (Proc.scVector (cV L) (jV L)).devRef cc1_scratch2) rfl⟩⟩),
    SparseCore.bigSep_erase' (Finset.mem_erase.mpr ⟨fun e => absurd (Proc.devRef_injective _ e) (show (cc1_scratch3 : Ref sig .scVector) ≠ cc1_scratch2 by decide), Finset.mem_erase.mpr ⟨fun e => absurd (Proc.devRef_injective _ e) (show (cc1_scratch3 : Ref sig .scVector) ≠ cc1_scratch1 by decide), Finset.mem_erase.mpr ⟨fun e => absurd (Proc.devRef_injective _ e) (show (cc1_scratch3 : Ref sig .scVector) ≠ cc1_scratch0 by decide), SparseCore.Cfg.mem_ownRefs_of_owner (p := Proc.scVector (cV L) (jV L)) (b := (Proc.scVector (cV L) (jV L)).devRef cc1_scratch3) rfl⟩⟩⟩)]

omit [FloatOps F] in
theorem pts_yT (f : Buf (Elt F) ((thr d L).loc cc1_scratch0)) :
    (((thr d L).loc cc1_scratch0 ↦{fullShare} f) : sProp (MT nD τ sig (HIx 1) (Elt F) ℕ UU ℕ))
      = ((yT).view.loc (thr d L) ↦{fullShare} f) := rfl
omit [FloatOps F] in
theorem pts_sT (f : Buf (Elt F) ((thr d L).loc cc1_scratch1)) :
    (((thr d L).loc cc1_scratch1 ↦{fullShare} f) : sProp (MT nD τ sig (HIx 1) (Elt F) ℕ UU ℕ))
      = ((sT).view.loc (thr d L) ↦{fullShare} f) := rfl
omit [FloatOps F] in
theorem pts_dT (f : Buf (Elt F) ((thr d L).loc cc1_scratch2)) :
    (((thr d L).loc cc1_scratch2 ↦{fullShare} f) : sProp (MT nD τ sig (HIx 1) (Elt F) ℕ UU ℕ))
      = ((dT).view.loc (thr d L) ↦{fullShare} f) := rfl
omit [FloatOps F] in
theorem pts_aT (f : Buf (Elt F) ((thr d L).loc cc1_scratch3)) :
    (((thr d L).loc cc1_scratch3 ↦{fullShare} f) : sProp (MT nD τ sig (HIx 1) (Elt F) ℕ UU ℕ))
      = ((aT).view.loc (thr d L) ↦{fullShare} f) := rfl
omit [FloatOps F] in
theorem pts_aT_whole (f : Buf (Elt F) ((aT).view.loc (thr d L))) :
    (((aT).access (.whole S10000)).loc (thr d L) ↦[((aT).access (.whole S10000)).set]{fullShare} f : sProp (MT nD τ sig (HIx 1) (Elt F) ℕ UU ℕ))
      = ((aT).view.loc (thr d L) ↦{fullShare} f) := by
  rw [show ((aT).access (.whole S10000)).set = Finset.univ from Memref.set_access_whole (cc1_scratch3 : Ref sig .scVector)]

variable (q : PosShare TreeShare) (y : S10000.Idx → Elt F .f32) (fs fd : S320000.Idx → BitVec 32)

/-- What the task reads: a share of the node values and of the two edge lists. -/
def reads : sProp (MT nD τ sig (HIx 1) (Elt F) ℕ UU ℕ) :=
  iprop(((yM).view.loc (thr d L) ↦{q} (y : Buf (Elt F) ((yM).view.loc (thr d L))))
    ∗ ((sM).view.loc (thr d L) ↦{q} (fs : Buf (Elt F) ((sM).view.loc (thr d L))))
    ∗ ((dM).view.loc (thr d L) ↦{q} (fd : Buf (Elt F) ((dM).view.loc (thr d L)))))

/-- The five rows the task writes, at contents `f`. -/
def writes (f : S5x32x2000.Idx → Elt F .f32) : sProp (MT nD τ sig (HIx 1) (Elt F) ℕ UU ℕ) :=
  iprop(((oSl0 L).view.loc (thr d L) ↦[(oSl0 L).view.set]{fullShare} (f : Buf (Elt F) ((oSl0 L).view.loc (thr d L))))
    ∗ ((oSl1 L).view.loc (thr d L) ↦[(oSl1 L).view.set]{fullShare} (f : Buf (Elt F) ((oSl1 L).view.loc (thr d L))))
    ∗ ((oSl2 L).view.loc (thr d L) ↦[(oSl2 L).view.set]{fullShare} (f : Buf (Elt F) ((oSl2 L).view.loc (thr d L))))
    ∗ ((oSl3 L).view.loc (thr d L) ↦[(oSl3 L).view.set]{fullShare} (f : Buf (Elt F) ((oSl3 L).view.loc (thr d L))))
    ∗ ((oSl4 L).view.loc (thr d L) ↦[(oSl4 L).view.set]{fullShare} (f : Buf (Elt F) ((oSl4 L).view.loc (thr d L)))))

/-- The zeroing loop's invariant: the first `16k` words of the accumulator are zero. -/
def inv1 (k : Nat) (_ : PUnit) : sProp (MT nD τ sig (HIx 1) (Elt F) ℕ UU ℕ) :=
  iprop(∃ f : Buf (Elt F) ((aT).view.loc (thr d L)), ⌜∀ j : S10000.Idx, (j 0).val < 16 * k → f j = zeroW⌝
    ∗ ((aT).view.loc (thr d L) ↦{fullShare} f))

theorem land_y (g : Buf (Elt F) ((thr d L).loc cc1_scratch0)) :
    ((yT).view.loc (thr d L) ↦{fullShare} ((yT).view.write (Elt F) g ((yM).view.read (Elt F) (y : (yM).view.ty.Contents (Elt F))) Finset.univ : Buf (Elt F) ((yT).view.loc (thr d L))) : sProp (MT nD τ sig (HIx 1) (Elt F) ℕ UU ℕ))
      = ((yT).view.loc (thr d L) ↦{fullShare} (y : Buf (Elt F) ((yT).view.loc (thr d L)))) := by
  refine pointsTo_congr fun i _ => ?_
  exact (congrFun (View.write_whole_univ (Val := Elt F) cc1_scratch0 g _) i).trans rfl

theorem land_s (g : Buf (Elt F) ((thr d L).loc cc1_scratch1)) :
    ((sT).view.loc (thr d L) ↦{fullShare} ((sT).view.write (Elt F) g (((sM).slice (Rect.unit (s := S320000) (k1_off1 L) ![10000] (k1_off1_inb L)) (fun _ => rfl)).view.read (Elt F) (fs : (sM).view.ty.Contents (Elt F))) Finset.univ : Buf (Elt F) ((sT).view.loc (thr d L))) : sProp (MT nD τ sig (HIx 1) (Elt F) ℕ UU ℕ))
      = ((sT).view.loc (thr d L) ↦{fullShare} (chunk L fs : Buf (Elt F) ((sT).view.loc (thr d L)))) := by
  refine pointsTo_congr fun i _ => ?_
  exact (congrFun (View.write_whole_univ (Val := Elt F) cc1_scratch1 g _) i).trans rfl

theorem land_d (g : Buf (Elt F) ((thr d L).loc cc1_scratch2)) :
    ((dT).view.loc (thr d L) ↦{fullShare} ((dT).view.write (Elt F) g (((dM).slice (Rect.unit (s := S320000) (k1_off1 L) ![10000] (k1_off1_inb L)) (fun _ => rfl)).view.read (Elt F) (fd : (dM).view.ty.Contents (Elt F))) Finset.univ : Buf (Elt F) ((dT).view.loc (thr d L))) : sProp (MT nD τ sig (HIx 1) (Elt F) ℕ UU ℕ))
      = ((dT).view.loc (thr d L) ↦{fullShare} (chunk L fd : Buf (Elt F) ((dT).view.loc (thr d L)))) := by
  refine pointsTo_congr fun i _ => ?_
  exact (congrFun (View.write_whole_univ (Val := Elt F) cc1_scratch2 g _) i).trans rfl

variable (hs : ∀ j, (fs j).toNat < 10000) (hd : ∀ j, (fd j).toNat < 10000)

/-- The edge loop's invariant: after `k` groups the accumulator holds `accK k`; the fetched rows stay. -/
def inv2 (k : Nat) (_ : PUnit) : sProp (MT nD τ sig (HIx 1) (Elt F) ℕ UU ℕ) :=
  iprop(((yT).view.loc (thr d L) ↦{fullShare} (y : Buf (Elt F) ((yT).view.loc (thr d L))))
    ∗ ((sT).view.loc (thr d L) ↦{fullShare} (chunk L fs : Buf (Elt F) ((sT).view.loc (thr d L))))
    ∗ ((dT).view.loc (thr d L) ↦{fullShare} (chunk L fd : Buf (Elt F) ((dT).view.loc (thr d L))))
    ∗ ((aT).view.loc (thr d L) ↦{fullShare} (accK y (chunk L fs) (chunk L fd) (chunk_lt hs) (chunk_lt hd) k : Buf (Elt F) ((aT).view.loc (thr d L)))))

theorem out0 (f0 : S5x32x2000.Idx → Elt F .f32) :
    ((oSl0 L).view.loc (thr d L) ↦[(oSl0 L).view.set]{fullShare}
        ((oSl0 L).view.writes (Elt F) (f0 : (oSl0 L).view.ty.Contents (Elt F)) [⟨Rect.whole S2000, ((aT).slice (Rect.unit (s := S10000) ![0] ![2000] inb_S10000_S2000_0) (fun _ => rfl)).view.read (Elt F) (accFin y fs fd hs hd L)⟩] : Buf (Elt F) ((oSl0 L).view.loc (thr d L))) : sProp (MT nD τ sig (HIx 1) (Elt F) ℕ UU ℕ))
      = ((oSl0 L).view.loc (thr d L) ↦[(oSl0 L).view.set]{fullShare} (partsOf y fs fd hs hd : Buf (Elt F) ((oSl0 L).view.loc (thr d L)))) := by
  refine pts_writes_whole (c := thr d L) (oSl0 L).view f0 (partsOf y fs fd hs hd) _ (funext fun x => ?_)
  obtain ⟨⟨h0, h1⟩, h2⟩ := oSl0_emb L x
  refine ((View.read_apply (v := (oSl0 L).view) (Val := Elt F) _ x).trans (cast_eq _ _)).trans ?_
  refine (partsOf_at y fs fd hs hd L _ ((((aT).slice (Rect.unit (s := S10000) ![0] ![2000] inb_S10000_S2000_0) (fun _ => rfl)).view.emb x : S10000.Idx)) h1 ?_).trans ?_
  · rw [h0, h2]
    show 0 + 1 * (x 0).val = _
    omega
  · exact ((View.read_apply (v := ((aT).slice (Rect.unit (s := S10000) ![0] ![2000] inb_S10000_S2000_0) (fun _ => rfl)).view) (Val := Elt F) _ x).trans (cast_eq _ _)).symm

theorem out1 (f0 : S5x32x2000.Idx → Elt F .f32) :
    ((oSl1 L).view.loc (thr d L) ↦[(oSl1 L).view.set]{fullShare}
        ((oSl1 L).view.writes (Elt F) (f0 : (oSl1 L).view.ty.Contents (Elt F)) [⟨Rect.whole S2000, ((aT).slice (Rect.unit (s := S10000) ![2000] ![2000] inb_S10000_S2000_2000) (fun _ => rfl)).view.read (Elt F) (accFin y fs fd hs hd L)⟩] : Buf (Elt F) ((oSl1 L).view.loc (thr d L))) : sProp (MT nD τ sig (HIx 1) (Elt F) ℕ UU ℕ))
      = ((oSl1 L).view.loc (thr d L) ↦[(oSl1 L).view.set]{fullShare} (partsOf y fs fd hs hd : Buf (Elt F) ((oSl1 L).view.loc (thr d L)))) := by
  refine pts_writes_whole (c := thr d L) (oSl1 L).view f0 (partsOf y fs fd hs hd) _ (funext fun x => ?_)
  obtain ⟨⟨h0, h1⟩, h2⟩ := oSl1_emb L x
  refine ((View.read_apply (v := (oSl1 L).view) (Val := Elt F) _ x).trans (cast_eq _ _)).trans ?_
  refine (partsOf_at y fs fd hs hd L _ ((((aT).slice (Rect.unit (s := S10000) ![2000] ![2000] inb_S10000_S2000_2000) (fun _ => rfl)).view.emb x : S10000.Idx)) h1 ?_).trans ?_
  · rw [h0, h2]
    show 2000 + 1 * (x 0).val = _
    omega
  · exact ((View.read_apply (v := ((aT).slice (Rect.unit (s := S10000) ![2000] ![2000] inb_S10000_S2000_2000) (fun _ => rfl)).view) (Val := Elt F) _ x).trans (cast_eq _ _)).symm

theorem out2 (f0 : S5x32x2000.Idx → Elt F .f32) :
    ((oSl2 L).view.loc (thr d L) ↦[(oSl2 L).view.set]{fullShare}
        ((oSl2 L).view.writes (Elt F) (f0 : (oSl2 L).view.ty.Contents (Elt F)) [⟨Rect.whole S2000, ((aT).slice (Rect.unit (s := S10000) ![4000] ![2000] inb_S10000_S2000_4000) (fun _ => rfl)).view.read (Elt F) (accFin y fs fd hs hd L)⟩] : Buf (Elt F) ((oSl2 L).view.loc (thr d L))) : sProp (MT nD τ sig (HIx 1) (Elt F) ℕ UU ℕ))
      = ((oSl2 L).view.loc (thr d L) ↦[(oSl2 L).view.set]{fullShare} (partsOf y fs fd hs hd : Buf (Elt F) ((oSl2 L).view.loc (thr d L)))) := by
  refine pts_writes_whole (c := thr d L) (oSl2 L).view f0 (partsOf y fs fd hs hd) _ (funext fun x => ?_)
  obtain ⟨⟨h0, h1⟩, h2⟩ := oSl2_emb L x
  refine ((View.read_apply (v := (oSl2 L).view) (Val := Elt F) _ x).trans (cast_eq _ _)).trans ?_
  refine (partsOf_at y fs fd hs hd L _ ((((aT).slice (Rect.unit (s := S10000) ![4000] ![2000] inb_S10000_S2000_4000) (fun _ => rfl)).view.emb x : S10000.Idx)) h1 ?_).trans ?_
  · rw [h0, h2]
    show 4000 + 1 * (x 0).val = _
    omega
  · exact ((View.read_apply (v := ((aT).slice (Rect.unit (s := S10000) ![4000] ![2000] inb_S10000_S2000_4000) (fun _ => rfl)).view) (Val := Elt F) _ x).trans (cast_eq _ _)).symm

theorem out3 (f0 : S5x32x2000.Idx → Elt F .f32) :
    ((oSl3 L).view.loc (thr d L) ↦[(oSl3 L).view.set]{fullShare}
        ((oSl3 L).view.writes (Elt F) (f0 : (oSl3 L).view.ty.Contents (Elt F)) [⟨Rect.whole S2000, ((aT).slice (Rect.unit (s := S10000) ![6000] ![2000] inb_S10000_S2000_6000) (fun _ => rfl)).view.read (Elt F) (accFin y fs fd hs hd L)⟩] : Buf (Elt F) ((oSl3 L).view.loc (thr d L))) : sProp (MT nD τ sig (HIx 1) (Elt F) ℕ UU ℕ))
      = ((oSl3 L).view.loc (thr d L) ↦[(oSl3 L).view.set]{fullShare} (partsOf y fs fd hs hd : Buf (Elt F) ((oSl3 L).view.loc (thr d L)))) := by
  refine pts_writes_whole (c := thr d L) (oSl3 L).view f0 (partsOf y fs fd hs hd) _ (funext fun x => ?_)
  obtain ⟨⟨h0, h1⟩, h2⟩ := oSl3_emb L x
  refine ((View.read_apply (v := (oSl3 L).view) (Val := Elt F) _ x).trans (cast_eq _ _)).trans ?_
  refine (partsOf_at y fs fd hs hd L _ ((((aT).slice (Rect.unit (s := S10000) ![6000] ![2000] inb_S10000_S2000_6000) (fun _ => rfl)).view.emb x : S10000.Idx)) h1 ?_).trans ?_
  · rw [h0, h2]
    show 6000 + 1 * (x 0).val = _
    omega
  · exact ((View.read_apply (v := ((aT).slice (Rect.unit (s := S10000) ![6000] ![2000] inb_S10000_S2000_6000) (fun _ => rfl)).view) (Val := Elt F) _ x).trans (cast_eq _ _)).symm

theorem out4 (f0 : S5x32x2000.Idx → Elt F .f32) :
    ((oSl4 L).view.loc (thr d L) ↦[(oSl4 L).view.set]{fullShare}
        ((oSl4 L).view.writes (Elt F) (f0 : (oSl4 L).view.ty.Contents (Elt F)) [⟨Rect.whole S2000, ((aT).slice (Rect.unit (s := S10000) ![8000] ![2000] inb_S10000_S2000_8000) (fun _ => rfl)).view.read (Elt F) (accFin y fs fd hs hd L)⟩] : Buf (Elt F) ((oSl4 L).view.loc (thr d L))) : sProp (MT nD τ sig (HIx 1) (Elt F) ℕ UU ℕ))
      = ((oSl4 L).view.loc (thr d L) ↦[(oSl4 L).view.set]{fullShare} (partsOf y fs fd hs hd : Buf (Elt F) ((oSl4 L).view.loc (thr d L)))) := by
  refine pts_writes_whole (c := thr d L) (oSl4 L).view f0 (partsOf y fs fd hs hd) _ (funext fun x => ?_)
  obtain ⟨⟨h0, h1⟩, h2⟩ := oSl4_emb L x
  refine ((View.read_apply (v := (oSl4 L).view) (Val := Elt F) _ x).trans (cast_eq _ _)).trans ?_
  refine (partsOf_at y fs fd hs hd L _ ((((aT).slice (Rect.unit (s := S10000) ![8000] ![2000] inb_S10000_S2000_8000) (fun _ => rfl)).view.emb x : S10000.Idx)) h1 ?_).trans ?_
  · rw [h0, h2]
    show 8000 + 1 * (x 0).val = _
    omega
  · exact ((View.read_apply (v := ((aT).slice (Rect.unit (s := S10000) ![8000] ![2000] inb_S10000_S2000_8000) (fun _ => rfl)).view) (Val := Elt F) _ x).trans (cast_eq _ _)).symm

/-- A group's step from the vectors the program reads. -/
theorem step_eq {y : S10000.Idx → Elt F .f32} {s d : S10000.Idx → BitVec 32} (hs : ∀ j, (s j).toNat < 10000) (hd : ∀ j, (d j).toNat < 10000)
    (k : Fin k1_t2_loop.trips) {a a' y' : S10000.Idx → Elt F .f32} {rs rd : S16.Idx → BitVec 32} (ha : a' = a) (hy : y' = y) (hrs : rs = grp s k)
    (hrd : rd = grp d k) (h1 : k1_chk1 rs) (h2 : k1_chk2 rd) :
    storeIdx (s := S10000) (e := .f32) a' ![rd] (loadIdx (s := S10000) (e := .f32) y' ![rs] (k1_idx1_inb _ h1)) (fun _ => 1#1) true (k1_idx2_inb _ h2)
      = accStep y s d hs hd k a := by
  subst ha hy hrs hrd
  rfl

theorem edge_lands (k : Fin k1_t2_loop.trips) :
    ((aT).view.loc (thr d L) ↦{fullShare} (((aT).access (.whole S10000)).write (Elt F)
        (accK y (chunk L fs) (chunk L fd) (chunk_lt hs) (chunk_lt hd) k.val : (aT).view.ty.Contents (Elt F))
        (storeIdx (((aT).access (.whole S10000)).read (Elt F) (accK y (chunk L fs) (chunk L fd) (chunk_lt hs) (chunk_lt hd) k.val : (aT).view.ty.Contents (Elt F)))
          ![(dT).view.readAt (Elt F) (Rect.unit (s := S10000) (k1_off3 k) S16.size (k1_off3_inb k)).toLoadRect (chunk L fd : (dT).view.ty.Contents (Elt F))]
          (loadIdx (((yT).access (.whole S10000)).read (Elt F) (y : (yT).view.ty.Contents (Elt F)))
            ![(sT).view.readAt (Elt F) (Rect.unit (s := S10000) (k1_off3 k) S16.size (k1_off3_inb k)).toLoadRect (chunk L fs : (sT).view.ty.Contents (Elt F))] (k1_idx1_inb _ (chk1_of (chunk_lt hs) k)))
          (fun _ => 1#1) true (k1_idx2_inb _ (chk2_of (chunk_lt hd) k))) Finset.univ
        : Buf (Elt F) ((aT).view.loc (thr d L))) : sProp (MT nD τ sig (HIx 1) (Elt F) ℕ UU ℕ))
      = ((aT).view.loc (thr d L) ↦{fullShare} (accK y (chunk L fs) (chunk L fd) (chunk_lt hs) (chunk_lt hd) (k.val + 1) : Buf (Elt F) ((aT).view.loc (thr d L)))) := by
  refine pointsTo_congr fun i _ => ?_
  rw [accK_succ]
  refine (congrFun (Memref.write_access_whole_univ (Elt F) cc1_scratch3 _ _) i).trans ?_
  exact congrFun (step_eq (chunk_lt hs) (chunk_lt hd) k (Memref.read_access_whole (Elt F) cc1_scratch3 _) (Memref.read_access_whole (Elt F) cc1_scratch0 _) rfl rfl (chk1_of (chunk_lt hs) k) (chk2_of (chunk_lt hd) k)) i

theorem tile_body (hF : (K (F := F)).Facts) (f0 : S5x32x2000.Idx → Elt F .f32) (O : CellTallies nD τ sig (HIx 1)) (W : Waits sig (HIx 1)) (hO : ∀ g, O g none = 0) :
    iprop(levAts (K (F := F)).L (K (F := F)).lev ∗ emp ∗ (reads d L q y fs fd ∗ writes d L f0)
        ∗ scopedBufs (thr d L) ∗ scopedSems0 (thr d L) ∗ owes (thr d L) O W)
      ⊢ wp frame (wpE (defs₀ (F := F)) 𝒱₀ (thr d L) none) Set.univ
          (cc1__edge_body L yM (Memref.isWhole_whole _) sM (Memref.isWhole_whole _) dM (Memref.isWhole_whole _) oM (Memref.isWhole_whole _)
            yT (Memref.isWhole_whole _) sT (Memref.isWhole_whole _) dT (Memref.isWhole_whole _) aT (Memref.isWhole_whole _)
            cc1_scoped0 cc1_scoped1 cc1_scoped2 cc1_scoped3 cc1_scoped4 cc1_scoped5 cc1_scoped6 cc1_scoped7)
          fun _ => iprop((reads d L q y fs fd ∗ writes d L (partsOf y fs fd hs hd)) ∗ scopedBufs (thr d L) ∗ scopedSems0 (thr d L)
            ∗ ∃ W', ⌜∀ p ∈ W', p ∈ W ∨ p.2 = none⌝ ∗ owes (thr d L) O W') := by
  simp only [cc1__edge_body_eq_skeleton]
  unfold cc1__edge_body_skel
  simp only [k1_part1_eq_skeleton, k1_part2_eq_skeleton]
  unfold k1_part1_skel k1_part2_skel
  simp only [bind_assoc]
  rw [(K (F := F)).scopedBufs_V hF d (cV L) (jV L), SparseCore.Cfg.scopedSems0_V (Val := Elt F) d (cV L) (jV L), ownSems0_V, ownBufs_V]
  unfold reads writes
  iintro ⟨#Hlv, -, ⟨⟨Hy, Hs, Hd⟩, Ho0, Ho1, Ho2, Ho3, Ho4⟩, ⟨⟨%gy, Hgy⟩, ⟨%gs, Hgs⟩, ⟨%gd, Hgd⟩, ⟨%ga, Hga⟩, Hbufs⟩,
    ⟨Hm0, Hm1, Hm2, Hm3, Hm4, Hm5, Hm6, Hm7, Hsems⟩, HO⟩
  ihave Hmw := ((K (F := F)).mayWaits_none (thr := thr d L) hO) $$ Hlv
  ihave Hgy := (Entails.of_eq (pts_yT (F := F) d L _)) $$ Hgy
  ihave Hgs := (Entails.of_eq (pts_sT (F := F) d L _)) $$ Hgs
  ihave Hgd := (Entails.of_eq (pts_dT (F := F) d L _)) $$ Hgd
  ihave Hga := (Entails.of_eq (pts_aT (F := F) d L _)) $$ Hga
  sl_exec
  sl_for (inv1 (F := F) d L) $$ [Hga]
  case region =>
    intro k _
    unfold inv1
    iintro ⟨%f, %hf, Hga⟩
    sl_exec
    sl_step
    iexists _; isplitr
    swap
    · iexact Hga
    · ipureintro; exact zero_step k f hf
  · unfold inv1
    iexists _; isplitr
    swap
    · iexact Hga
    · ipureintro; intro j hj; exact absurd hj (by omega)
  iintro %_ HI
  unfold inv1
  icases HI with ⟨%f, %hf, Hga⟩
  obtain rfl : f = (fun _ => zeroW : S10000.Idx → Elt F .f32) := funext fun j => hf j (by rw [trips1]; exact (j 0).isLt)
  sl_for (inv2 (F := F) d L y fs fd hs hd) $$ [Hgy Hgs Hgd Hga]
  case region =>
    intro k _
    unfold inv2
    iintro ⟨Hgy, Hgs, Hgd, Hga⟩
    sl_exec
    rw [wp_assume_of _ _ _ _ (show k1_chk1 (View.readAt (Elt F) (sT).view (Rect.unit (s := S10000) (k1_off3 k) S16.size _).toLoadRect (chunk L fs)) from chk1_of (s := chunk L fs) (chunk_lt hs) k)]
    sl_exec
    rw [wp_assume_of _ _ _ _ (show k1_chk2 (View.readAt (Elt F) (dT).view (Rect.unit (s := S10000) (k1_off3 k) S16.size _).toLoadRect (chunk L fd)) from chk2_of (s := chunk L fd) (chunk_lt hd) k)]
    iapply (SparseCore.wp_vectorLoadIdx 𝒱₀ (thr d L) none Set.univ (base := yT) (S := Finset.univ) (Finset.subset_univ _)) $$ Hgy
    iintro Hgy
    ihave Hga := (Entails.of_eq (pts_aT_whole (F := F) d L _).symm) $$ Hga
    iapply (SparseCore.wp_vectorStoreIdx 𝒱₀ (thr d L) none Set.univ (base := aT)) $$ Hga
    iintro Hga
    ihave Hga := (Entails.of_eq (pts_aT_whole (F := F) d L _)) $$ Hga
    sl_step
    isplitl [Hgy]; · iexact Hgy
    isplitl [Hgs]; · iexact Hgs
    isplitl [Hgd]; · iexact Hgd
    iapply (Entails.of_eq (edge_lands (F := F) d L y fs fd hs hd k))
    iexact Hga
  · unfold inv2
    isplitl [Hgy]; · iapply (Entails.of_eq (land_y (F := F) d L y gy)); iexact Hgy
    isplitl [Hgs]; · iapply (Entails.of_eq (land_s (F := F) d L fs gs)); iexact Hgs
    isplitl [Hgd]; · iapply (Entails.of_eq (land_d (F := F) d L fd gd)); iexact Hgd
    iexact Hga
  iintro %_ HI
  unfold inv2
  icases HI with ⟨Hgy, Hgs, Hgd, Hga⟩
  sl_exec
  sl_step
  isplitl [Hy Hs Hd Ho0 Ho1 Ho2 Ho3 Ho4]
  · isplitl [Hy Hs Hd]
    · isplitl [Hy]; · iexact Hy
      isplitl [Hs]; · iexact Hs
      iexact Hd
    isplitl [Ho0]; · iapply (Entails.of_eq (out0 (F := F) d L y fs fd hs hd f0)); iexact Ho0
    isplitl [Ho1]; · iapply (Entails.of_eq (out1 (F := F) d L y fs fd hs hd f0)); iexact Ho1
    isplitl [Ho2]; · iapply (Entails.of_eq (out2 (F := F) d L y fs fd hs hd f0)); iexact Ho2
    isplitl [Ho3]; · iapply (Entails.of_eq (out3 (F := F) d L y fs fd hs hd f0)); iexact Ho3
    iapply (Entails.of_eq (out4 (F := F) d L y fs fd hs hd f0)); iexact Ho4
  isplitl [Hgy Hgs Hgd Hga Hbufs]
  · isplitl [Hgy]; · iexists _; iapply (Entails.of_eq (pts_yT (F := F) d L _).symm); iexact Hgy
    isplitl [Hgs]; · iexists _; iapply (Entails.of_eq (pts_sT (F := F) d L _).symm); iexact Hgs
    isplitl [Hgd]; · iexists _; iapply (Entails.of_eq (pts_dT (F := F) d L _).symm); iexact Hgd
    isplitl [Hga]; · iexists _; iapply (Entails.of_eq (pts_aT (F := F) d L _).symm); iexact Hga
    iexact Hbufs
  isplitl [Hm0 Hm1 Hm2 Hm3 Hm4 Hm5 Hm6 Hm7 Hsems]
  · isplitl [Hm0]; · iexact Hm0
    isplitl [Hm1]; · iexact Hm1
    isplitl [Hm2]; · iexact Hm2
    isplitl [Hm3]; · iexact Hm3
    isplitl [Hm4]; · iexact Hm4
    isplitl [Hm5]; · iexact Hm5
    isplitl [Hm6]; · iexact Hm6
    isplitl [Hm7]; · iexact Hm7
    iexact Hsems
  iexists _; isplitr
  swap
  · iexact HO
  · ipureintro
    intro p hp
    simp only [Finset.mem_insert] at hp
    rcases hp with rfl | rfl | rfl | rfl | rfl | rfl | rfl | rfl | hp
    all_goals first | exact .inl hp | exact .inr rfl

end Body

end Cert.Proof.KI

end
-- ==== Proof.KI.Split.lean ====
/-
  The arrays of the SparseCore call dealt to the tiles: the three arrays it reads by shares, the array of partial sums by
  rows, five to a tile. Both are equations, so the same two statements deal the arrays out and put them together again.
-/
module

public import proofs.«01_k».proof.Proof.KI.Tile

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

abbrev MM (F : FTy → Type) := MT nD τ sig (HIx 1) (Elt F) ℕ UU ℕ

abbrev yLoc (d : Dev nD) : Loc nD τ sig := (SparseCore.T d).loc (main_v2 : Ref sig .tc)
abbrev sLoc (d : Dev nD) : Loc nD τ sig := (SparseCore.T d).loc (main_v4 : Ref sig .tc)
abbrev dLoc (d : Dev nD) : Loc nD τ sig := (SparseCore.T d).loc (main_v6 : Ref sig .tc)
abbrev oLoc (d : Dev nD) : Loc nD τ sig := (SparseCore.T d).loc (main_v7 : Ref sig .tc)

/-- The share of the read arrays that subcore `i` of core `c` holds. -/
def sh (c : Fin 2) (i : Fin 16) : PosShare TreeShare := pieceOf (pieceOf fullShare 2 (by decide) c) 16 (by decide) i

omit [FloatOps F] in
theorem shares (ℓ : Loc nD τ sig) (f : Buf (Elt F) ℓ) :
    (ℓ ↦{fullShare} f : sProp (MM F)) = bigSep Finset.univ fun c : Fin 2 => bigSep Finset.univ fun i : Fin 16 => ℓ ↦{sh c i} f := by
  rw [pointsTo_piecesOf Finset.univ f (by decide : 0 < 2) fullShare]
  exact bigSep_congr fun c _ => pointsTo_piecesOf Finset.univ f (by decide : 0 < 16) _

/-! ## The rows of the partial sums -/

/-- Row `2i + c` of block `j`: its two thousand words. -/
def rowSet (t : Fin 2 × Fin 16 × Fin 5) : Finset S5x32x2000.Idx :=
  Finset.univ.filter fun x => (x 0).val = t.2.2.val ∧ (x 1).val = 2 * t.2.1.val + t.1.val

theorem rowSet_disj (t t' : Fin 2 × Fin 16 × Fin 5) (h : t ≠ t') : Disjoint (rowSet t) (rowSet t') := by
  refine Finset.disjoint_left.mpr fun x hx hx' => h ?_
  obtain ⟨-, h0, h1⟩ := Finset.mem_filter.mp hx
  obtain ⟨-, h0', h1'⟩ := Finset.mem_filter.mp hx'
  obtain ⟨⟨c, hc⟩, ⟨i, hi⟩, ⟨j, hj⟩⟩ := t
  obtain ⟨⟨c', hc'⟩, ⟨i', hi'⟩, ⟨j', hj'⟩⟩ := t'
  simp only at h0 h1 h0' h1'
  obtain rfl : j = j' := by omega
  obtain rfl : c = c' := by omega
  obtain rfl : i = i' := by omega
  rfl

theorem rowSet_cover : (Finset.univ : Finset (Fin 2 × Fin 16 × Fin 5)).biUnion rowSet = (Finset.univ : Finset S5x32x2000.Idx) := by
  refine Finset.eq_univ_of_forall fun x => Finset.mem_biUnion.mpr ?_
  have h0 : (x 0).val < 5 := (x 0).isLt
  have h1 : (x 1).val < 32 := (x 1).isLt
  refine ⟨⟨⟨(x 1).val % 2, by omega⟩, ⟨(x 1).val / 2, by omega⟩, ⟨(x 0).val, h0⟩⟩, Finset.mem_univ _, Finset.mem_filter.mpr ⟨Finset.mem_univ _, rfl, ?_⟩⟩
  show (x 1).val = 2 * ((x 1).val / 2) + (x 1).val % 2
  omega

theorem row_lt (y : S5x32x2000.Idx) (a : Fin S2000.rank) : (y 2).val < S2000.size a := by
  obtain rfl : a = 0 := Subsingleton.elim _ _
  exact (y 2).isLt

/-- A view whose indices run over one row names that row. -/
theorem row_of_emb (e : S2000.Idx ↪ S5x32x2000.Idx) (t : Fin 2 × Fin 16 × Fin 5)
    (h : ∀ x, ((e x 0).val = t.2.2.val ∧ (e x 1).val = 2 * t.2.1.val + t.1.val) ∧ (e x 2).val = (x 0).val) :
    Finset.univ.map e = rowSet t := by
  ext y
  constructor
  · intro hy
    obtain ⟨x, -, rfl⟩ := Finset.mem_map.mp hy
    exact Finset.mem_filter.mpr ⟨Finset.mem_univ _, (h x).1⟩
  · intro hy
    obtain ⟨-, h0, h1⟩ := Finset.mem_filter.mp hy
    refine Finset.mem_map.mpr ⟨fun a => ⟨(y 2).val, row_lt y a⟩, Finset.mem_univ _, ?_⟩
    obtain ⟨⟨e0, e1⟩, e2⟩ := h fun a => ⟨(y 2).val, row_lt y a⟩
    funext a
    apply Fin.ext
    match a with
    | ⟨0, _⟩ => exact e0.trans h0.symm
    | ⟨1, _⟩ => exact e1.trans h1.symm
    | ⟨2, _⟩ => exact e2

theorem set0 (c : Fin 2) (i : Fin 16) : ((oSl0 (coordsV c i)).view.set : Finset S5x32x2000.Idx) = rowSet (c, i, 0) := row_of_emb _ _ (oSl0_emb (coordsV c i))
theorem set1 (c : Fin 2) (i : Fin 16) : ((oSl1 (coordsV c i)).view.set : Finset S5x32x2000.Idx) = rowSet (c, i, 1) := row_of_emb _ _ (oSl1_emb (coordsV c i))
theorem set2 (c : Fin 2) (i : Fin 16) : ((oSl2 (coordsV c i)).view.set : Finset S5x32x2000.Idx) = rowSet (c, i, 2) := row_of_emb _ _ (oSl2_emb (coordsV c i))
theorem set3 (c : Fin 2) (i : Fin 16) : ((oSl3 (coordsV c i)).view.set : Finset S5x32x2000.Idx) = rowSet (c, i, 3) := row_of_emb _ _ (oSl3_emb (coordsV c i))
theorem set4 (c : Fin 2) (i : Fin 16) : ((oSl4 (coordsV c i)).view.set : Finset S5x32x2000.Idx) = rowSet (c, i, 4) := row_of_emb _ _ (oSl4_emb (coordsV c i))

theorem writes_eq (d : Dev nD) (c : Fin 2) (i : Fin 16) (f : S5x32x2000.Idx → Elt F .f32) :
    (writes d (coordsV c i) f : sProp (MM F))
      = bigSep Finset.univ fun j : Fin 5 => oLoc d ↦[(rowSet (c, i, j) : Finset (Idx (oLoc d)))]{fullShare} (f : Buf (Elt F) (oLoc d)) := by
  rw [show (Finset.univ : Finset (Fin 5)) = {0, 1, 2, 3, 4} by decide, SparseCore.bigSep_insert' (by decide), SparseCore.bigSep_insert' (by decide),
    SparseCore.bigSep_insert' (by decide), SparseCore.bigSep_insert' (by decide), bigSep_singleton]
  rw [← set0, ← set1, ← set2, ← set3, ← set4]
  rfl

theorem rows (d : Dev nD) (f : S5x32x2000.Idx → Elt F .f32) :
    (oLoc d ↦{fullShare} (f : Buf (Elt F) (oLoc d)) : sProp (MM F))
      = bigSep Finset.univ fun c : Fin 2 => bigSep Finset.univ fun i : Fin 16 => writes d (coordsV c i) f := by
  have e : (oLoc d ↦{fullShare} (f : Buf (Elt F) (oLoc d)) : sProp (MM F))
      = (oLoc d ↦[((Finset.univ : Finset (Fin 2 × Fin 16 × Fin 5)).biUnion rowSet : Finset (Idx (oLoc d)))]{fullShare} (f : Buf (Elt F) (oLoc d))) := by
    rw [rowSet_cover]
  rw [e, pointsTo_biUnion (ℓ := oLoc d) (Finset.univ : Finset (Fin 2 × Fin 16 × Fin 5)) rowSet (fun t _ t' _ h => rowSet_disj t t' h)]
  rw [← Finset.univ_product_univ, SparseCore.bigSep_product]
  refine bigSep_congr fun c _ => ?_
  rw [← Finset.univ_product_univ, SparseCore.bigSep_product]
  exact bigSep_congr fun i _ => (writes_eq d c i f).symm

omit [FloatOps F] in
theorem bigSep_sep' {I : Type} (s : Finset I) (Φ Ψ : I → sProp (MM F)) :
    (bigSep s fun i => iprop(Φ i ∗ Ψ i)) = iprop(bigSep s Φ ∗ bigSep s Ψ) := bigSep_sep s Φ Ψ

/-- The call's four arrays, dealt. -/
theorem deal (d : Dev nD) (y : S10000.Idx → Elt F .f32) (fs fd : S320000.Idx → BitVec 32) (f : S5x32x2000.Idx → Elt F .f32) :
    iprop((yLoc d ↦{fullShare} (y : Buf (Elt F) (yLoc d))) ∗ (sLoc d ↦{fullShare} (fs : Buf (Elt F) (sLoc d)))
        ∗ (dLoc d ↦{fullShare} (fd : Buf (Elt F) (dLoc d))) ∗ (oLoc d ↦{fullShare} (f : Buf (Elt F) (oLoc d))))
      = (bigSep Finset.univ fun c : Fin 2 => bigSep Finset.univ fun i : Fin 16 =>
          iprop(reads d (coordsV c i) (sh c i) y fs fd ∗ writes d (coordsV c i) f) : sProp (MM F)) := by
  have deal4 (A B C E : Fin 2 → Fin 16 → sProp (MM F)) :
      iprop((bigSep Finset.univ fun c => bigSep Finset.univ fun i => A c i) ∗ (bigSep Finset.univ fun c => bigSep Finset.univ fun i => B c i)
          ∗ (bigSep Finset.univ fun c => bigSep Finset.univ fun i => C c i) ∗ bigSep Finset.univ fun c => bigSep Finset.univ fun i => E c i)
        = bigSep Finset.univ fun c => bigSep Finset.univ fun i => iprop(A c i ∗ B c i ∗ C c i ∗ E c i) := by
    rw [← bigSep_sep', ← bigSep_sep', ← bigSep_sep']
    refine bigSep_congr fun c _ => ?_
    rw [← bigSep_sep', ← bigSep_sep', ← bigSep_sep']
  rw [shares (yLoc d), shares (sLoc d), shares (dLoc d), rows]
  refine (deal4 _ _ _ _).trans (bigSep_congr fun c _ => bigSep_congr fun i _ => ?_)
  unfold reads
  have assoc (A B C : sProp (MM F)) : iprop(A ∗ B ∗ C) = iprop((A ∗ B) ∗ C) := BI.sep_assoc'.antisymm BI.sep_assoc
  exact (congrArg (fun R => iprop(_ ∗ R)) (assoc _ _ _)).trans (assoc _ _ _)

end Cert.Proof.KI

end
-- ==== Proof.KI.Proj.lean ====
/-
  The first TensorCore call, the projection `y = W · x` block by block: the body's triple, the pipeline's proof data,
  the body obligation, and the array it leaves as one function of the arrays it reads.
-/
module

public import Idealize.ShloMosaic.Lib.Pipeline.ValueKit.Basic
public import proofs.«01_k».proof.Proof.KI.Setup
public import proofs.«01_k».proof.Proof.Gen.KernelIdeal.Launch
public import proofs.«01_k».proof.Proof.Gen.KernelIdeal.Points
public import Idealize.ShloMosaic.Lib.Pipeline.FrameBody
public import Idealize.ShloMosaic.Lib.Pipeline.Value
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.Proof.KI

open Cert.KernelIdeal Cert.KernelIdeal.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The TensorCore's buffers at some contents, per device. -/
abbrev Bufs (F : FTy → Type) : Type := (c : Dev nD) → (b : Ref sig .tc) → Buf (Elt F) ((c.tc : Thread nD τ).loc b)

variable (V : Bufs F) (O : Dev nD → CellTallies nD τ sig (HIx 1)) (B : Dev nD → Set (SemLoc sig × HIx 1))

namespace Proj

/-- Window `w`'s block at point `t`, read off its array. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_of {c : Dev nD} (dat : Dat τ (Elt F) (HIx 1) ℕ UU ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) (HIx 1) ℕ UU ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

abbrev rW : Rect S1x128 := Rect.unit (s := S1x128) ![0, 0] S1x128.size inb_S1x128_S1x128_0_0
abbrev rX : Rect S2000x128 := Rect.unit (s := S2000x128) ![0, 0] S2000x128.size inb_S2000x128_S2000x128_0_0
abbrev rY : Rect S1x1x2000 := Rect.unit (s := S1x1x2000) ![0, 0, 0] S1x1x2000.size inb_S1x1x2000_S1x1x2000_0_0_0

/-- The output's staging buffer after the body: the product of the weights' row with the block of `x`. -/
def out (x0 : Vec F S2000x128 .f32) (x1 : Vec F S1x128 .f32) : Vec F S1x1x2000 .f32 :=
  View.canon [⟨rY, k0_pay1 (View.ld x1 rW) (View.ld x0 rX)⟩]

theorem out_cover (p0 : Vec F S1x1x2000 .f32) (y : S1x1x2000.Idx) :
    ∃ pc ∈ ([⟨rY, p0⟩] : List (View.Piece (Elt F) S1x1x2000 .f32)), y ∈ pc.1.set :=
  View.cover_of_tiled [⟨rY, p0⟩] S1x1x2000.size (by rfl) y

set_option maxHeartbeats 1000000 in
theorem sound_kernel (c : Dev nD) (E : Set ℕ) (i : grid0.Coords) (arg1 : Memref sig .tc .vmem S2000x128 .f32) (harg1 : arg1.IsWhole) (arg2 : Memref sig .tc .vmem S1x128 .f32) (harg2 : arg2.IsWhole) (arg3 : Memref sig .tc .vmem S1x1x2000 .f32) (harg3 : arg3.IsWhole)
    (x0 : Vec F S2000x128 .f32) (x1 : Vec F S1x128 .f32) (K : PUnit → sProp (MT nD τ sig (HIx 1) (Elt F) ℕ UU ℕ)) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out x0 x1)) -∗ K ⟨⟩))
      ⊢ wp frame (wpE (defs₀ (F := F)) Variants.none c none) E (cc0__proj_body i arg1 harg1 arg2 harg2 arg3 harg3) K := by
  simp only [cc0__proj_body_eq_skeleton]; unfold cc0__proj_body_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (out_cover _)

/-- The pipeline's proof data: the arrays as found, the outputs block by block; the core owes `O c` throughout. -/
def dat (c : Dev nD) : Dat τ (Elt F) (HIx 1) ℕ UU ℕ cfg0 c where
  A w := V c (Pipeline.arrRef spec0 w)
  after w t := match w with
    | ⟨0, _⟩ => iblk V c 0 t
    | ⟨1, _⟩ => iblk V c 1 t
    | ⟨2, _⟩ => out (iblk V c 0 t) (iblk V c 1 t)
  Φ _ := Pipeline.scopedRest spec0 c
  q _ := fullShare
  owed _ := O c
  recorded _ := B c

theorem A_eq (c : Dev nD) (w : Fin cfg0.W) : (dat V O B c).A w = V c (Pipeline.arrRef spec0 w) := by dsimp only [dat]
theorem after0 (c : Dev nD) (t : Fin cfg0.N) : (dat V O B c).after 0 t = iblk V c 0 t := by dsimp only [dat]
theorem after1 (c : Dev nD) (t : Fin cfg0.N) : (dat V O B c).after 1 t = iblk V c 1 t := by dsimp only [dat]
theorem after2 (c : Dev nD) (t : Fin cfg0.N) : (dat V O B c).after 2 t = out (iblk V c 0 t) (iblk V c 1 t) := by dsimp only [dat]
theorem before0 (c : Dev nD) (t : Fin cfg0.N) (d) : (dat V O B c).before 0 t d = iblk V c 0 t :=
  before0_of V (dat V O B c) (A_eq V O B c 0) (after0 V O B c) t d
theorem before1 (c : Dev nD) (t : Fin cfg0.N) (d) : (dat V O B c).before 1 t d = iblk V c 1 t :=
  before1_of V (dat V O B c) (A_eq V O B c 1) (after1 V O B c) t d

/-- What the body is called with at point `t`, the windows one by one, -/
def bodyPre (c : Dev nD) (t : Fin cfg0.N) : sProp (MT nD τ sig (HIx 1) (Elt F) ℕ UU ℕ) :=
  iprop((dat V O B c).Φ t.castSucc ∗ (dat V O B c).owesAt none t.castSucc
    ∗ (∃ d, owns (c : Thread nD τ) (st0_0 t) fullShare ((dat V O B c).before 0 t d))
    ∗ (∃ d, owns (c : Thread nD τ) (st0_1 t) fullShare ((dat V O B c).before 1 t d))
    ∗ (∃ d, owns (c : Thread nD τ) (st0_2 t) fullShare ((dat V O B c).before 2 t d)))

/-- and what it returns. -/
def bodyPost (c : Dev nD) (t : Fin cfg0.N) : sProp (MT nD τ sig (HIx 1) (Elt F) ℕ UU ℕ) :=
  iprop((dat V O B c).Φ t.succ ∗ (dat V O B c).owesAt none t.succ
    ∗ owns (c : Thread nD τ) (st0_0 t) fullShare ((dat V O B c).after 0 t)
    ∗ owns (c : Thread nD τ) (st0_1 t) fullShare ((dat V O B c).after 1 t)
    ∗ owns (c : Thread nD τ) (st0_2 t) fullShare ((dat V O B c).after 2 t))

theorem sound_body (c : Dev nD) (t : Fin cfg0.N) :
    bodyPre V O B c t ⊢ wp frame (wpE (defs₀ (F := F)) Variants.none c none) Set.univ (bodyAt0 t) (fun _ => bodyPost V O B c t) := by
  unfold bodyPre bodyPost bodyAt0
  simp only [before0, before1]
  rw [show (dat V O B c).Φ t.succ = (dat V O B c).Φ t.castSucc from rfl,
    show (dat V O B c).owesAt none t.succ = (dat V O B c).owesAt none t.castSucc from rfl,
    after0, after1, after2]
  iintro ⟨HΦ, Ho, ⟨%d0, H0⟩, ⟨%d1, H1⟩, ⟨%d2, H2⟩⟩
  iapply (sound_kernel c Set.univ (grid0.coords t) _ _ _ _ _ _ (iblk V c 0 t) (iblk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem defs₀_row (t : Fin cfg0.N) :
    defs₀ (F := F) .tc cfg0.body (cfg0.bodyArgs t (cfg0.slots t)) = bodyAt0 t := rfl

theorem body_obligation (c : Dev nD) : BodyObligation (dat V O B c) (defs₀ (F := F)) Variants.none none Set.univ := fun t => by
  rw [bigSep_W0, bigSep_W0, defs₀_row]
  exact triple_restated (sound_body V O B c t) rfl .rfl fun _ => .rfl

/-! ## The array it leaves -/

/-- The two thousand rows of `x` that point `t` reads. -/
def xrows (x : S10000x128.Idx → Elt F .f32) (t : Fin 5) : Vec F S2000x128 .f32 := fun j =>
  x (fun | 0 => ⟨2000 * t.val + (j 0).val, by have h : (j 0).val < 2000 := (j 0).isLt; have := t.isLt; show _ < 10000; omega⟩
         | 1 => j 1
         | ⟨_ + 2, h⟩ => absurd h (Nat.not_lt.2 (Nat.le_add_left _ _)))

/-- The projected values, block by block. -/
def projOf (x : S10000x128.Idx → Elt F .f32) (w : Vec F S1x128 .f32) : S5x1x2000.Idx → Elt F .f32 := fun i =>
  k0_pay1 w (xrows x (i 0)) (fun | 0 => ⟨0, Nat.one_pos⟩ | 1 => i 1 | 2 => i 2 | ⟨_ + 3, h⟩ => absurd h (Nat.not_lt.2 (Nat.le_add_left _ _)))

theorem out_eq (x0 : Vec F S2000x128 .f32) (x1 : Vec F S1x128 .f32) : out x0 x1 = k0_pay1 x1 x0 := by
  unfold out
  rw [View.canon_cons_unit_lit _ _ _ (by decide), View.ld_unit_lit _ _ (by decide), View.ld_unit_lit _ _ (by decide)]

theorem idx_facts : ∀ t : Fin cfg0.N, (win0_0.index t (0 : Fin 2) = t.val ∧ win0_0.index t (1 : Fin 2) = 0)
    ∧ (win0_2.index t (0 : Fin 3) = t.val ∧ win0_2.index t (1 : Fin 3) = 0 ∧ win0_2.index t (2 : Fin 3) = 0)
    ∧ (win0_1.index t (0 : Fin 2) = 0 ∧ win0_1.index t (1 : Fin 2) = 0) :=
  (by decide +kernel : ∀ t : Fin grid0.N, _)

theorem iblk0_eq (c : Dev nD) (t : Fin cfg0.N) : iblk V c 0 t = xrows (V c main_arg0) ⟨t.val, lt_of_lt_of_eq t.isLt N_0⟩ := by
  obtain ⟨⟨e0, e1⟩, -, -⟩ := idx_facts t
  funext j
  show V c main_arg0 (((cfg0.win 0).blk t).view.emb j) = _
  refine congrArg (V c main_arg0) (funext fun a => Fin.ext ?_)
  match a with
  | ⟨0, _⟩ => show win0_0.index t (0 : Fin 2) * 2000 + 1 * (j 0).val = 2000 * t.val + (j 0).val; rw [e0]; omega
  | ⟨1, _⟩ => show win0_0.index t (1 : Fin 2) * 128 + 1 * (j 1).val = (j 1).val; rw [e1]; omega

theorem iblk1_eq (c : Dev nD) (t : Fin cfg0.N) : iblk V c 1 t = V c main_v0 := by
  obtain ⟨-, -, e0, e1⟩ := idx_facts t
  funext j
  show V c main_v0 (((cfg0.win 1).blk t).view.emb j) = _
  refine congrArg (V c main_v0) (funext fun a => Fin.ext ?_)
  match a with
  | ⟨0, _⟩ => show win0_1.index t (0 : Fin 2) * 1 + 1 * (j 0).val = (j 0).val; rw [e0]; omega
  | ⟨1, _⟩ => show win0_1.index t (1 : Fin 2) * 128 + 1 * (j 1).val = (j 1).val; rw [e1]; omega

theorem flushed_eq (c : Dev nD) (t : Fin cfg0.N) :
    (dat V O B c).flushed 2 t = ((cfg0.win 2).blk t).view.read (Elt F) (projOf (V c main_arg0) (V c main_v0)) := by
  show (cfg0.win 2).cut (grid0.coords t) ((dat V O B c).after 2 t) = _
  rw [after2, out_eq, iblk0_eq, iblk1_eq]
  obtain ⟨-, ⟨e0, e1, e2⟩, -⟩ := idx_facts t
  funext y
  have hy0 : (y 0).val < 1 := (y 0).isLt
  have hb : ((cfg0.win 2).blk t).view.emb y = (fun | 0 => ⟨t.val, lt_of_lt_of_eq t.isLt N_0⟩ | 1 => y 1 | 2 => y 2 | ⟨_ + 3, h⟩ => absurd h (Nat.not_lt.2 (Nat.le_add_left _ _)) : S5x1x2000.Idx) := by
    funext a; apply Fin.ext
    match a with
    | ⟨0, _⟩ => show win0_2.index t (0 : Fin 3) * 1 + 1 * (y 0).val = t.val; rw [e0]; omega
    | ⟨1, _⟩ => show win0_2.index t (1 : Fin 3) * 1 + 1 * (y 1).val = (y 1).val; rw [e1]; omega
    | ⟨2, _⟩ => show win0_2.index t (2 : Fin 3) * 2000 + 1 * (y 2).val = (y 2).val; rw [e2]; omega
  show _ = projOf (V c main_arg0) (V c main_v0) (((cfg0.win 2).blk t).view.emb y)
  rw [hb]
  show k0_pay1 (V c main_v0) (xrows (V c main_arg0) ⟨t.val, _⟩) _ = k0_pay1 (V c main_v0) (xrows (V c main_arg0) ⟨t.val, _⟩) _
  refine congrArg (k0_pay1 (V c main_v0) (xrows (V c main_arg0) ⟨t.val, lt_of_lt_of_eq t.isLt N_0⟩)) (funext fun a => Fin.ext ?_)
  match a with
  | ⟨0, _⟩ => show (y 0).val = 0; omega
  | ⟨1, _⟩ => rfl
  | ⟨2, _⟩ => rfl

theorem mem_blk (t : Fin cfg0.N) (i : S5x1x2000.Idx) :
    i ∈ ((cfg0.win 2).blk t).view.set ↔ ∀ a : Fin 3, win0_2.index t a * S1x1x2000.size a ≤ (i a).val ∧ (i a).val < win0_2.index t a * S1x1x2000.size a + S1x1x2000.size a := by
  show i ∈ ((View.whole main_v1).slice (win0_2.rect t)).set ↔ _
  rw [View.set_slice_whole, Rect.mem_set_unit]
  exact Iff.rfl

/-- The array after the call is `projOf` of the arrays before it. -/
theorem final (c : Dev nD) : (dat V O B c).arrAt 2 cfg0.N = projOf (V c main_arg0) (V c main_v0) :=
  (dat V O B c).arrAt_eq_of_cover 2 _ (fun t _ => flushed_eq V O B c t) (fun i => by
    have h0 : (i 0).val < 5 := (i 0).isLt
    have h1 : (i 1).val < 1 := (i 1).isLt
    have h2 : (i 2).val < 2000 := (i 2).isLt
    refine ⟨⟨(i 0).val, lt_of_lt_of_eq h0 N_0.symm⟩, flush0_2 _, ?_⟩
    obtain ⟨-, ⟨e0, e1, e2⟩, -⟩ := idx_facts ⟨(i 0).val, lt_of_lt_of_eq h0 N_0.symm⟩
    rw [mem_blk]
    intro a
    match a with
    | ⟨0, _⟩ => show win0_2.index _ (0 : Fin 3) * 1 ≤ (i 0).val ∧ (i 0).val < win0_2.index _ (0 : Fin 3) * 1 + 1; rw [e0]; dsimp only; omega
    | ⟨1, _⟩ => show win0_2.index _ (1 : Fin 3) * 1 ≤ (i 1).val ∧ (i 1).val < win0_2.index _ (1 : Fin 3) * 1 + 1; rw [e1]; omega
    | ⟨2, _⟩ => show win0_2.index _ (2 : Fin 3) * 2000 ≤ (i 2).val ∧ (i 2).val < win0_2.index _ (2 : Fin 3) * 2000 + 2000; rw [e2]; omega)

end Proj

end Cert.Proof.KI

end
-- ==== Proof.KI.Pool.lean ====
/-
  The second TensorCore call, the softmax pooling: one grid point as a step on the running maximum, denominator and
  weighted sum; the body's triple in its three cases (first point, middle, last point); the pipeline's proof data, the
  body obligation, and the array it leaves as one function of the arrays it reads.
-/
module

public import proofs.«01_k».proof.Proof.KI.Proj
public import Idealize.ShloMosaic.Lib.VecWindow

@[expose] public section

set_option maxRecDepth 16384

noncomputable section

namespace Cert.Proof.KI

open Cert.KernelIdeal Cert.KernelIdeal.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : Bufs F) (O : Dev nD → CellTallies nD τ sig (HIx 1)) (B : Dev nD → Set (SemLoc sig × HIx 1))

namespace Pool

/-- The running state of the pooling: each graph's maximum, denominator and weighted sum so far. -/
structure St (F : FTy → Type) [FloatOps F] where
  m : Vec F S64x1 .f32
  d : Vec F S64x1 .f32
  g : Vec F S64x128 .f32

/-- The state the first point starts from. -/
def init : St F := ⟨k2_pay7, k2_pay8, k2_pay9⟩

/-- One grid point: the blocks `x` of rows, `p` of partial sums, `b` of graph numbers, with the row of weights `w` and the
    bias `r`, taken into the state. -/
def step (x : Vec F S2000x128 .f32) (p : Vec F S1x32x2000 .f32) (b : Vec F S1x1x2000 .i32) (w : Vec F S1x128 .f32) (r : Vec F S1x1 .f32) (s : St F) : St F where
  m := k2_pay5 (k2_pay13 x p w r b s.m)
  d := k2_pay3 (k2_pay10 x p w r) (k2_pay12 b) (k2_pay13 x p w r b s.m) (k2_pay14 x p w r b s.m) (k2_pay15 x p w r b s.m) (Scalar.ofBits .f32 0x00000000#32) s.d
  g := k2_pay4 x (k2_pay10 x p w r) (k2_pay12 b) (k2_pay13 x p w r b s.m) (k2_pay14 x p w r b s.m) (k2_pay15 x p w r b s.m) (Scalar.ofBits .f32 0x00000000#32) s.g

/-- What the last point stores into the output. -/
def out (s : St F) : Vec F S64x128 .f32 := k2_pay6 s.g s.d

/-! Loads of a whole staging buffer, and of one a whole store has just filled. -/

variable {κ : Kind} {sp : Space} {e : EltTy}
theorem rd_x (v : View sig κ sp S2000x128 e) (f : v.ty.Contents (Elt F)) (inb) : v.readAt (Elt F) (Rect.unit ![0, 0] ![2000, 128] inb).toLoadRect f = v.read (Elt F) f :=
  View.readAt_full v f inb
theorem rd_p (v : View sig κ sp S1x32x2000 e) (f : v.ty.Contents (Elt F)) (inb) : v.readAt (Elt F) (Rect.unit ![0, 0, 0] ![1, 32, 2000] inb).toLoadRect f = v.read (Elt F) f :=
  View.readAt_full v f inb
theorem rd_b (v : View sig κ sp S1x1x2000 e) (f : v.ty.Contents (Elt F)) (inb) : v.readAt (Elt F) (Rect.unit ![0, 0, 0] ![1, 1, 2000] inb).toLoadRect f = v.read (Elt F) f :=
  View.readAt_full v f inb
theorem rd_w (v : View sig κ sp S1x128 e) (f : v.ty.Contents (Elt F)) (inb) : v.readAt (Elt F) (Rect.unit ![0, 0] ![1, 128] inb).toLoadRect f = v.read (Elt F) f :=
  View.readAt_full v f inb
theorem rd_r (v : View sig κ sp S1x1 e) (f : v.ty.Contents (Elt F)) (inb) : v.readAt (Elt F) (Rect.unit ![0, 0] ![1, 1] inb).toLoadRect f = v.read (Elt F) f :=
  View.readAt_full v f inb
theorem rd_m (v : View sig κ sp S64x1 e) (f : v.ty.Contents (Elt F)) (inb) : v.readAt (Elt F) (Rect.unit ![0, 0] ![64, 1] inb).toLoadRect f = v.read (Elt F) f :=
  View.readAt_full v f inb
theorem rd_g (v : View sig κ sp S64x128 e) (f : v.ty.Contents (Elt F)) (inb) : v.readAt (Elt F) (Rect.unit ![0, 0] ![64, 128] inb).toLoadRect f = v.read (Elt F) f :=
  View.readAt_full v f inb
theorem rc_m (v : View sig κ sp S64x1 e) (inb) (inb') (w : S64x1.Idx → Elt F e) (L) : v.readCov (⟨Rect.unit ![0, 0] ![64, 1] inb', w⟩ :: L) (Rect.unit ![0, 0] ![64, 1] inb).toLoadRect = w :=
  View.readCov_full v inb inb' w L
theorem rw_m (v : View sig κ sp S64x1 e) (f : v.ty.Contents (Elt F)) (inb) (inb') (w : S64x1.Idx → Elt F e) (L) : v.readAt (Elt F) (Rect.unit ![0, 0] ![64, 1] inb).toLoadRect (v.writes (Elt F) f (⟨Rect.unit ![0, 0] ![64, 1] inb', w⟩ :: L)) = w :=
  View.readAt_writes_full v f inb inb' w L
theorem rc_g (v : View sig κ sp S64x128 e) (inb) (inb') (w : S64x128.Idx → Elt F e) (L) : v.readCov (⟨Rect.unit ![0, 0] ![64, 128] inb', w⟩ :: L) (Rect.unit ![0, 0] ![64, 128] inb).toLoadRect = w :=
  View.readCov_full v inb inb' w L
theorem rw_g (v : View sig κ sp S64x128 e) (f : v.ty.Contents (Elt F)) (inb) (inb') (w : S64x128.Idx → Elt F e) (L) : v.readAt (Elt F) (Rect.unit ![0, 0] ![64, 128] inb).toLoadRect (v.writes (Elt F) f (⟨Rect.unit ![0, 0] ![64, 128] inb', w⟩ :: L)) = w :=
  View.readAt_writes_full v f inb inb' w L

/-- The body's first condition, from the grid coordinates. -/
abbrev cond1 (i : grid2.Coords) : Prop := (Scalar.cmpi .ne (Scalar.extui (Scalar.cmpi .eq (BitVec.ofNat 32 (i 0).val) 0#32)) 0#32) = 1#1
/-- The body's second condition. -/
abbrev cond2 (i : grid2.Coords) : Prop := k2_cond2 i = 1#1

theorem hcond1 : ∀ t : Fin cfg2.N, cond1 (grid2.coords t) ↔ t.val % 5 = 0 :=
  (fun t => by
    have ht : t.val < 5 := Nat.lt_of_lt_of_eq t.isLt N_2
    have e0 : (grid2.coords t 0).val = t.val / 1 % 5 := Pipeline.Grid.coords_val t 0 (by decide) rfl
    simp only [cond1, e0]
    word_cmp
   : ∀ t : Fin grid2.N, cond1 (grid2.coords t) ↔ t.val % 5 = 0)

theorem hcond2 : ∀ t : Fin cfg2.N, cond2 (grid2.coords t) ↔ t.val % 5 = 4 :=
  (fun t => by
    have ht : t.val < 5 := Nat.lt_of_lt_of_eq t.isLt N_2
    have e0 : (grid2.coords t 0).val = t.val / 1 % 5 := Pipeline.Grid.coords_val t 0 (by decide) rfl
    simp only [cond2, k2_cond2, e0]
    word_cmp
   : ∀ t : Fin grid2.N, cond2 (grid2.coords t) ↔ t.val % 5 = 4)

set_option maxHeartbeats 2000000 in
/-- The first point: the scratch at anything, reset and then stepped; the output untouched. -/
theorem sound_first (c : Dev nD) (E : Set ℕ) (i : grid2.Coords) (arg1 : Memref sig .tc .vmem S2000x128 .f32) (harg1 : arg1.IsWhole) (arg2 : Memref sig .tc .vmem S1x32x2000 .f32) (harg2 : arg2.IsWhole) (arg3 : Memref sig .tc .vmem S1x1x2000 .i32) (harg3 : arg3.IsWhole) (arg4 : Memref sig .tc .vmem S1x128 .f32) (harg4 : arg4.IsWhole) (arg5 : Memref sig .tc .vmem S1x1 .f32) (harg5 : arg5.IsWhole) (arg6 : Memref sig .tc .vmem S64x128 .f32) (harg6 : arg6.IsWhole) (arg7 : Memref sig .tc .vmem S64x1 .f32) (harg7 : arg7.IsWhole) (arg8 : Memref sig .tc .vmem S64x1 .f32) (harg8 : arg8.IsWhole) (arg9 : Memref sig .tc .vmem S64x128 .f32) (harg9 : arg9.IsWhole)
    (hc1 : cond1 i) (hc2 : ¬cond2 i) (x : Vec F S2000x128 .f32) (p : Vec F S1x32x2000 .f32) (b : Vec F S1x1x2000 .i32) (w : Vec F S1x128 .f32) (r : Vec F S1x1 .f32) (xi : Vec F S64x128 .f32) (K : PUnit → sProp (MT nD τ sig (HIx 1) (Elt F) ℕ UU ℕ)) :
    iprop(owns (c : Thread nD τ) arg1 fullShare x ∗ owns (c : Thread nD τ) arg2 fullShare p ∗ owns (c : Thread nD τ) arg3 fullShare b ∗ owns (c : Thread nD τ) arg4 fullShare w ∗ owns (c : Thread nD τ) arg5 fullShare r ∗ owns (c : Thread nD τ) arg6 fullShare xi ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg1 fullShare x ∗ owns (c : Thread nD τ) arg2 fullShare p ∗ owns (c : Thread nD τ) arg3 fullShare b ∗ owns (c : Thread nD τ) arg4 fullShare w ∗ owns (c : Thread nD τ) arg5 fullShare r ∗ owns (c : Thread nD τ) arg6 fullShare xi ∗ owns (c : Thread nD τ) arg7 fullShare (step x p b w r init).m ∗ owns (c : Thread nD τ) arg8 fullShare (step x p b w r init).d ∗ owns (c : Thread nD τ) arg9 fullShare (step x p b w r init).g) -∗ K ⟨⟩))
      ⊢ wp frame (wpE (defs₀ (F := F)) Variants.none c none) E (cc2__pool_body i arg1 harg1 arg2 harg2 arg3 harg3 arg4 harg4 arg5 harg5 arg6 harg6 arg7 harg7 arg8 harg8 arg9 harg9) K := by
  simp only [cc2__pool_body_eq_skeleton]; unfold cc2__pool_body_skel
  simp only [k2_part1_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
  subst hf1
  subst hf2
  subst hf3
  subst hf4
  subst hf5
  subst hf6
  sl_exec (disch := first | sl_exact hc1 | sl_exact hc2)
  sl_step
  iapply Hk
  isplitl [H1]
  · iexists _; isplitr; swap; · iexact H1
    ipureintro; rfl
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; rfl
  isplitl [H5]
  · iexists _; isplitr; swap; · iexact H5
    ipureintro; rfl
  isplitl [H6]
  · iexists _; isplitr; swap; · iexact H6
    ipureintro; rfl
  isplitl [H7]
  · iexists _; isplitr; swap; · iexact H7
    ipureintro
    refine (View.read_writes_full _ _ _ _ _).trans ?_
    try delta sound_first.sl.v25 sound_first.sl.v48 sound_first.sl.v56
    try delta sound_first.sl.H7_1 sound_first.sl.H8_1 sound_first.sl.H9_1
    delta sound_first.sl.r sound_first.sl.r_1 sound_first.sl.r_2 sound_first.sl.r_3 sound_first.sl.r_4 sound_first.sl.r_5 sound_first.sl.cst_18
    try delta sound_first.sl.v25 sound_first.sl.v48 sound_first.sl.v56
    try delta sound_first.sl.H7_1 sound_first.sl.H8_1 sound_first.sl.H9_1
    simp only [Scalar.ofBits, rd_x, rd_p, rd_b, rd_w, rd_r, rd_m, rd_g, rc_m, rc_g, rw_m, rw_g, step, init]
  isplitl [H8]
  · iexists _; isplitr; swap; · iexact H8
    ipureintro
    refine (View.read_writes_full _ _ _ _ _).trans ?_
    try delta sound_first.sl.v25 sound_first.sl.v48 sound_first.sl.v56
    try delta sound_first.sl.H7_1 sound_first.sl.H8_1 sound_first.sl.H9_1
    delta sound_first.sl.r sound_first.sl.r_1 sound_first.sl.r_2 sound_first.sl.r_3 sound_first.sl.r_4 sound_first.sl.r_5 sound_first.sl.cst_18
    try delta sound_first.sl.v25 sound_first.sl.v48 sound_first.sl.v56
    try delta sound_first.sl.H7_1 sound_first.sl.H8_1 sound_first.sl.H9_1
    simp only [Scalar.ofBits, rd_x, rd_p, rd_b, rd_w, rd_r, rd_m, rd_g, rc_m, rc_g, rw_m, rw_g, step, init]
  iexists _; isplitr; swap; · iexact H9
  ipureintro
  refine (View.read_writes_full _ _ _ _ _).trans ?_
  try delta sound_first.sl.v25 sound_first.sl.v48 sound_first.sl.v56
  try delta sound_first.sl.H7_1 sound_first.sl.H8_1 sound_first.sl.H9_1
  delta sound_first.sl.r sound_first.sl.r_1 sound_first.sl.r_2 sound_first.sl.r_3 sound_first.sl.r_4 sound_first.sl.r_5 sound_first.sl.cst_18
  try delta sound_first.sl.v25 sound_first.sl.v48 sound_first.sl.v56
  try delta sound_first.sl.H7_1 sound_first.sl.H8_1 sound_first.sl.H9_1
  simp only [Scalar.ofBits, rd_x, rd_p, rd_b, rd_w, rd_r, rd_m, rd_g, rc_m, rc_g, rw_m, rw_g, step, init]

set_option maxHeartbeats 2000000 in
/-- A middle point: the scratch stepped; the output untouched. -/
theorem sound_mid (c : Dev nD) (E : Set ℕ) (i : grid2.Coords) (arg1 : Memref sig .tc .vmem S2000x128 .f32) (harg1 : arg1.IsWhole) (arg2 : Memref sig .tc .vmem S1x32x2000 .f32) (harg2 : arg2.IsWhole) (arg3 : Memref sig .tc .vmem S1x1x2000 .i32) (harg3 : arg3.IsWhole) (arg4 : Memref sig .tc .vmem S1x128 .f32) (harg4 : arg4.IsWhole) (arg5 : Memref sig .tc .vmem S1x1 .f32) (harg5 : arg5.IsWhole) (arg6 : Memref sig .tc .vmem S64x128 .f32) (harg6 : arg6.IsWhole) (arg7 : Memref sig .tc .vmem S64x1 .f32) (harg7 : arg7.IsWhole) (arg8 : Memref sig .tc .vmem S64x1 .f32) (harg8 : arg8.IsWhole) (arg9 : Memref sig .tc .vmem S64x128 .f32) (harg9 : arg9.IsWhole)
    (hc1 : ¬cond1 i) (hc2 : ¬cond2 i) (x : Vec F S2000x128 .f32) (p : Vec F S1x32x2000 .f32) (b : Vec F S1x1x2000 .i32) (w : Vec F S1x128 .f32) (r : Vec F S1x1 .f32) (xi : Vec F S64x128 .f32) (s : St F) (K : PUnit → sProp (MT nD τ sig (HIx 1) (Elt F) ℕ UU ℕ)) :
    iprop(owns (c : Thread nD τ) arg1 fullShare x ∗ owns (c : Thread nD τ) arg2 fullShare p ∗ owns (c : Thread nD τ) arg3 fullShare b ∗ owns (c : Thread nD τ) arg4 fullShare w ∗ owns (c : Thread nD τ) arg5 fullShare r ∗ owns (c : Thread nD τ) arg6 fullShare xi ∗ owns (c : Thread nD τ) arg7 fullShare s.m ∗ owns (c : Thread nD τ) arg8 fullShare s.d ∗ owns (c : Thread nD τ) arg9 fullShare s.g
        ∗ (iprop(owns (c : Thread nD τ) arg1 fullShare x ∗ owns (c : Thread nD τ) arg2 fullShare p ∗ owns (c : Thread nD τ) arg3 fullShare b ∗ owns (c : Thread nD τ) arg4 fullShare w ∗ owns (c : Thread nD τ) arg5 fullShare r ∗ owns (c : Thread nD τ) arg6 fullShare xi ∗ owns (c : Thread nD τ) arg7 fullShare (step x p b w r s).m ∗ owns (c : Thread nD τ) arg8 fullShare (step x p b w r s).d ∗ owns (c : Thread nD τ) arg9 fullShare (step x p b w r s).g) -∗ K ⟨⟩))
      ⊢ wp frame (wpE (defs₀ (F := F)) Variants.none c none) E (cc2__pool_body i arg1 harg1 arg2 harg2 arg3 harg3 arg4 harg4 arg5 harg5 arg6 harg6 arg7 harg7 arg8 harg8 arg9 harg9) K := by
  simp only [cc2__pool_body_eq_skeleton]; unfold cc2__pool_body_skel
  simp only [k2_part1_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  subst hf1
  subst hf2
  subst hf3
  subst hf4
  subst hf5
  subst hf6
  sl_exec (disch := first | sl_exact hc1 | sl_exact hc2)
  sl_step
  iapply Hk
  isplitl [H1]
  · iexists _; isplitr; swap; · iexact H1
    ipureintro; rfl
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; rfl
  isplitl [H5]
  · iexists _; isplitr; swap; · iexact H5
    ipureintro; rfl
  isplitl [H6]
  · iexists _; isplitr; swap; · iexact H6
    ipureintro; rfl
  isplitl [H7]
  · iexists _; isplitr; swap; · iexact H7
    ipureintro
    refine (View.read_writes_full _ _ _ _ _).trans ?_
    delta sound_mid.sl.r sound_mid.sl.r_1 sound_mid.sl.r_2 sound_mid.sl.r_3 sound_mid.sl.r_4 sound_mid.sl.r_5 sound_mid.sl.cst_18
    simp only [Scalar.ofBits, rd_x, rd_p, rd_b, rd_w, rd_r, rd_m, rd_g, rc_m, rc_g, rw_m, rw_g, hf7, hf8, hf9, step]
  isplitl [H8]
  · iexists _; isplitr; swap; · iexact H8
    ipureintro
    refine (View.read_writes_full _ _ _ _ _).trans ?_
    delta sound_mid.sl.r sound_mid.sl.r_1 sound_mid.sl.r_2 sound_mid.sl.r_3 sound_mid.sl.r_4 sound_mid.sl.r_5 sound_mid.sl.cst_18
    simp only [Scalar.ofBits, rd_x, rd_p, rd_b, rd_w, rd_r, rd_m, rd_g, rc_m, rc_g, rw_m, rw_g, hf7, hf8, hf9, step]
  iexists _; isplitr; swap; · iexact H9
  ipureintro
  refine (View.read_writes_full _ _ _ _ _).trans ?_
  delta sound_mid.sl.r sound_mid.sl.r_1 sound_mid.sl.r_2 sound_mid.sl.r_3 sound_mid.sl.r_4 sound_mid.sl.r_5 sound_mid.sl.cst_18
  simp only [Scalar.ofBits, rd_x, rd_p, rd_b, rd_w, rd_r, rd_m, rd_g, rc_m, rc_g, rw_m, rw_g, hf7, hf8, hf9, step]

set_option maxHeartbeats 2000000 in
/-- The last point: the scratch stepped, and the output stored from it. -/
theorem sound_last (c : Dev nD) (E : Set ℕ) (i : grid2.Coords) (arg1 : Memref sig .tc .vmem S2000x128 .f32) (harg1 : arg1.IsWhole) (arg2 : Memref sig .tc .vmem S1x32x2000 .f32) (harg2 : arg2.IsWhole) (arg3 : Memref sig .tc .vmem S1x1x2000 .i32) (harg3 : arg3.IsWhole) (arg4 : Memref sig .tc .vmem S1x128 .f32) (harg4 : arg4.IsWhole) (arg5 : Memref sig .tc .vmem S1x1 .f32) (harg5 : arg5.IsWhole) (arg6 : Memref sig .tc .vmem S64x128 .f32) (harg6 : arg6.IsWhole) (arg7 : Memref sig .tc .vmem S64x1 .f32) (harg7 : arg7.IsWhole) (arg8 : Memref sig .tc .vmem S64x1 .f32) (harg8 : arg8.IsWhole) (arg9 : Memref sig .tc .vmem S64x128 .f32) (harg9 : arg9.IsWhole)
    (hc1 : ¬cond1 i) (hc2 : cond2 i) (x : Vec F S2000x128 .f32) (p : Vec F S1x32x2000 .f32) (b : Vec F S1x1x2000 .i32) (w : Vec F S1x128 .f32) (r : Vec F S1x1 .f32) (s : St F) (K : PUnit → sProp (MT nD τ sig (HIx 1) (Elt F) ℕ UU ℕ)) :
    iprop(owns (c : Thread nD τ) arg1 fullShare x ∗ owns (c : Thread nD τ) arg2 fullShare p ∗ owns (c : Thread nD τ) arg3 fullShare b ∗ owns (c : Thread nD τ) arg4 fullShare w ∗ owns (c : Thread nD τ) arg5 fullShare r ∗ (∃ d, owns (c : Thread nD τ) arg6 fullShare d) ∗ owns (c : Thread nD τ) arg7 fullShare s.m ∗ owns (c : Thread nD τ) arg8 fullShare s.d ∗ owns (c : Thread nD τ) arg9 fullShare s.g
        ∗ (iprop(owns (c : Thread nD τ) arg1 fullShare x ∗ owns (c : Thread nD τ) arg2 fullShare p ∗ owns (c : Thread nD τ) arg3 fullShare b ∗ owns (c : Thread nD τ) arg4 fullShare w ∗ owns (c : Thread nD τ) arg5 fullShare r ∗ owns (c : Thread nD τ) arg6 fullShare (out (step x p b w r s)) ∗ owns (c : Thread nD τ) arg7 fullShare (step x p b w r s).m ∗ owns (c : Thread nD τ) arg8 fullShare (step x p b w r s).d ∗ owns (c : Thread nD τ) arg9 fullShare (step x p b w r s).g) -∗ K ⟨⟩))
      ⊢ wp frame (wpE (defs₀ (F := F)) Variants.none c none) E (cc2__pool_body i arg1 harg1 arg2 harg2 arg3 harg3 arg4 harg4 arg5 harg5 arg6 harg6 arg7 harg7 arg8 harg8 arg9 harg9) K := by
  simp only [cc2__pool_body_eq_skeleton]; unfold cc2__pool_body_skel
  simp only [k2_part1_eq_skeleton]
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%f9, %hf9, H9⟩, Hk⟩
  subst hf1
  subst hf2
  subst hf3
  subst hf4
  subst hf5
  sl_exec (disch := first | sl_exact hc1 | sl_exact hc2)
  sl_step
  iapply Hk
  isplitl [H1]
  · iexists _; isplitr; swap; · iexact H1
    ipureintro; rfl
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; rfl
  isplitl [H5]
  · iexists _; isplitr; swap; · iexact H5
    ipureintro; rfl
  isplitl [H6]
  · iexists _; isplitr; swap; · iexact H6
    ipureintro
    refine (View.read_writes_full _ _ _ _ _).trans ?_
    try delta sound_last.sl.v70 sound_last.sl.v71
    try delta sound_last.sl.H8_1 sound_last.sl.H9_1
    delta sound_last.sl.r sound_last.sl.r_1 sound_last.sl.r_2 sound_last.sl.r_3 sound_last.sl.r_4 sound_last.sl.r_5 sound_last.sl.cst_18
    simp only [Scalar.ofBits, rd_x, rd_p, rd_b, rd_w, rd_r, rd_m, rd_g, rc_m, rc_g, rw_m, rw_g, hf7, hf8, hf9, out, step]
  isplitl [H7]
  · iexists _; isplitr; swap; · iexact H7
    ipureintro
    refine (View.read_writes_full _ _ _ _ _).trans ?_
    try delta sound_last.sl.v70 sound_last.sl.v71
    try delta sound_last.sl.H8_1 sound_last.sl.H9_1
    delta sound_last.sl.r sound_last.sl.r_1 sound_last.sl.r_2 sound_last.sl.r_3 sound_last.sl.r_4 sound_last.sl.r_5 sound_last.sl.cst_18
    simp only [Scalar.ofBits, rd_x, rd_p, rd_b, rd_w, rd_r, rd_m, rd_g, rc_m, rc_g, rw_m, rw_g, hf7, hf8, hf9, step]
  isplitl [H8]
  · iexists _; isplitr; swap; · iexact H8
    ipureintro
    refine (View.read_writes_full _ _ _ _ _).trans ?_
    try delta sound_last.sl.v70 sound_last.sl.v71
    try delta sound_last.sl.H8_1 sound_last.sl.H9_1
    delta sound_last.sl.r sound_last.sl.r_1 sound_last.sl.r_2 sound_last.sl.r_3 sound_last.sl.r_4 sound_last.sl.r_5 sound_last.sl.cst_18
    simp only [Scalar.ofBits, rd_x, rd_p, rd_b, rd_w, rd_r, rd_m, rd_g, rc_m, rc_g, rw_m, rw_g, hf7, hf8, hf9, step]
  iexists _; isplitr; swap; · iexact H9
  ipureintro
  refine (View.read_writes_full _ _ _ _ _).trans ?_
  try delta sound_last.sl.v70 sound_last.sl.v71
  try delta sound_last.sl.H8_1 sound_last.sl.H9_1
  delta sound_last.sl.r sound_last.sl.r_1 sound_last.sl.r_2 sound_last.sl.r_3 sound_last.sl.r_4 sound_last.sl.r_5 sound_last.sl.cst_18
  simp only [Scalar.ofBits, rd_x, rd_p, rd_b, rd_w, rd_r, rd_m, rd_g, rc_m, rc_g, rw_m, rw_g, hf7, hf8, hf9, step]

/-! ## The pipeline's proof data -/

/-- Window `w`'s block at point `t`, read off its array. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before0_of {c : Dev nD} (dat : Dat τ (Elt F) (HIx 1) ℕ UU ℕ cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) (HIx 1) ℕ UU ℕ cfg2 c) (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) (HIx 1) ℕ UU ℕ cfg2 c) (hA : dat.A 2 = V c (Pipeline.arrRef spec2 2))
    (hafter : ∀ t, dat.after 2 t = iblk V c 2 t) (t : Fin cfg2.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) (HIx 1) ℕ UU ℕ cfg2 c) (hA : dat.A 3 = V c (Pipeline.arrRef spec2 3))
    (hafter : ∀ t, dat.after 3 t = iblk V c 3 t) (t : Fin cfg2.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before4_of {c : Dev nD} (dat : Dat τ (Elt F) (HIx 1) ℕ UU ℕ cfg2 c) (hA : dat.A 4 = V c (Pipeline.arrRef spec2 4))
    (hafter : ∀ t, dat.after 4 t = iblk V c 4 t) (t : Fin cfg2.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- The state after the first `n` points. -/
def stAt (c : Dev nD) : ℕ → St F
  | 0 => init
  | n + 1 => if h : n < cfg2.N then step (iblk V c 0 ⟨n, h⟩) (iblk V c 1 ⟨n, h⟩) (iblk V c 2 ⟨n, h⟩) (iblk V c 3 ⟨n, h⟩) (iblk V c 4 ⟨n, h⟩) (stAt c n) else stAt c n

theorem stAt_succ (c : Dev nD) (t : Fin cfg2.N) :
    stAt V c (t.val + 1) = step (iblk V c 0 t) (iblk V c 1 t) (iblk V c 2 t) (iblk V c 3 t) (iblk V c 4 t) (stAt V c t.val) :=
  dif_pos t.isLt

/-- The other call's staging buffers, at anything. -/
abbrev anyAt (c : Dev nD) (b : Ref sig .tc) : sProp (MT nD τ sig (HIx 1) (Elt F) ℕ UU ℕ) :=
  iprop(∃ f : Buf (Elt F) ((c : Thread nD τ).loc b), ((c : Thread nD τ).loc b) ↦{fullShare} f)

/-- The region's invariant before point `n`: at the start every scratch at anything, later the three scratch buffers at the
    state of the first `n` points. -/
def Phi (c : Dev nD) : ℕ → sProp (MT nD τ sig (HIx 1) (Elt F) ℕ UU ℕ)
  | 0 => Pipeline.scopedRest spec2 c
  | n + 1 => iprop(anyAt c cc0_stg0_0 ∗ anyAt c cc0_stg0_1 ∗ anyAt c cc0_stg1_0 ∗ anyAt c cc0_stg2_0 ∗ anyAt c cc0_stg2_1
      ∗ owns (c : Thread nD τ) (Memref.whole cc2_scratch0) fullShare (stAt V c (n + 1)).m
      ∗ owns (c : Thread nD τ) (Memref.whole cc2_scratch1) fullShare (stAt V c (n + 1)).d
      ∗ owns (c : Thread nD τ) (Memref.whole cc2_scratch2) fullShare (stAt V c (n + 1)).g)

theorem rest_eq (c : Dev nD) :
    (Pipeline.scopedRest spec2 c : sProp (MT nD τ sig (HIx 1) (Elt F) ℕ UU ℕ))
      = iprop(anyAt c cc0_stg0_0 ∗ anyAt c cc0_stg0_1 ∗ anyAt c cc0_stg1_0 ∗ anyAt c cc0_stg2_0 ∗ anyAt c cc0_stg2_1
      ∗ (∃ d, owns (c : Thread nD τ) (Memref.whole cc2_scratch0) fullShare d)
      ∗ (∃ d, owns (c : Thread nD τ) (Memref.whole cc2_scratch1) fullShare d)
      ∗ (∃ d, owns (c : Thread nD τ) (Memref.whole cc2_scratch2) fullShare d)) := by
  rw [scopedRest2_eq]; simp only [owns_whole]; try rfl

/-- The pipeline's proof data: the arrays as found; the output after the last point; the core owes `O c` throughout. -/
def dat (c : Dev nD) : Dat τ (Elt F) (HIx 1) ℕ UU ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => out (stAt V c (t.val + 1))
  Φ t := Phi V c t.val
  q _ := fullShare
  owed _ := O c
  recorded _ := B c

theorem A_eq (c : Dev nD) (w : Fin cfg2.W) : (dat V O B c).A w = V c (Pipeline.arrRef spec2 w) := by dsimp only [dat]
theorem after5 (c : Dev nD) (t : Fin cfg2.N) : (dat V O B c).after 5 t = out (stAt V c (t.val + 1)) := by dsimp only [dat]
theorem after0 (c : Dev nD) (t : Fin cfg2.N) : (dat V O B c).after 0 t = iblk V c 0 t := by dsimp only [dat]
theorem before0 (c : Dev nD) (t : Fin cfg2.N) (d) : (dat V O B c).before 0 t d = iblk V c 0 t :=
  before0_of V (dat V O B c) (A_eq V O B c 0) (after0 V O B c) t d
theorem leaves0 (c : Dev nD) (t : Fin cfg2.N) : (dat V O B c).leavesExact 0 t = owns (c : Thread nD τ) (st2_0 t) fullShare (iblk V c 0 t) := by
  unfold Dat.leavesExact; rw [show cfg2.idle 0 (cfg2.grid.coords t) = false from rfl, after0]
theorem after1 (c : Dev nD) (t : Fin cfg2.N) : (dat V O B c).after 1 t = iblk V c 1 t := by dsimp only [dat]
theorem before1 (c : Dev nD) (t : Fin cfg2.N) (d) : (dat V O B c).before 1 t d = iblk V c 1 t :=
  before1_of V (dat V O B c) (A_eq V O B c 1) (after1 V O B c) t d
theorem leaves1 (c : Dev nD) (t : Fin cfg2.N) : (dat V O B c).leavesExact 1 t = owns (c : Thread nD τ) (st2_1 t) fullShare (iblk V c 1 t) := by
  unfold Dat.leavesExact; rw [show cfg2.idle 1 (cfg2.grid.coords t) = false from rfl, after1]
theorem after2 (c : Dev nD) (t : Fin cfg2.N) : (dat V O B c).after 2 t = iblk V c 2 t := by dsimp only [dat]
theorem before2 (c : Dev nD) (t : Fin cfg2.N) (d) : (dat V O B c).before 2 t d = iblk V c 2 t :=
  before2_of V (dat V O B c) (A_eq V O B c 2) (after2 V O B c) t d
theorem leaves2 (c : Dev nD) (t : Fin cfg2.N) : (dat V O B c).leavesExact 2 t = owns (c : Thread nD τ) (st2_2 t) fullShare (iblk V c 2 t) := by
  unfold Dat.leavesExact; rw [show cfg2.idle 2 (cfg2.grid.coords t) = false from rfl, after2]
theorem after3 (c : Dev nD) (t : Fin cfg2.N) : (dat V O B c).after 3 t = iblk V c 3 t := by dsimp only [dat]
theorem before3 (c : Dev nD) (t : Fin cfg2.N) (d) : (dat V O B c).before 3 t d = iblk V c 3 t :=
  before3_of V (dat V O B c) (A_eq V O B c 3) (after3 V O B c) t d
theorem leaves3 (c : Dev nD) (t : Fin cfg2.N) : (dat V O B c).leavesExact 3 t = owns (c : Thread nD τ) (st2_3 t) fullShare (iblk V c 3 t) := by
  unfold Dat.leavesExact; rw [show cfg2.idle 3 (cfg2.grid.coords t) = false from rfl, after3]
theorem after4 (c : Dev nD) (t : Fin cfg2.N) : (dat V O B c).after 4 t = iblk V c 4 t := by dsimp only [dat]
theorem before4 (c : Dev nD) (t : Fin cfg2.N) (d) : (dat V O B c).before 4 t d = iblk V c 4 t :=
  before4_of V (dat V O B c) (A_eq V O B c 4) (after4 V O B c) t d
theorem leaves4 (c : Dev nD) (t : Fin cfg2.N) : (dat V O B c).leavesExact 4 t = owns (c : Thread nD τ) (st2_4 t) fullShare (iblk V c 4 t) := by
  unfold Dat.leavesExact; rw [show cfg2.idle 4 (cfg2.grid.coords t) = false from rfl, after4]

theorem idle5 : ∀ t : Fin cfg2.N, ¬cond2 (grid2.coords t) → cfg2.idle 5 (grid2.coords t) = true := by decide +kernel
theorem noFlush5 : ∀ t : Fin cfg2.N, ¬cond2 (grid2.coords t) → (cfg2.win 5).flush t = false := by decide +kernel
theorem live5 : ∀ t : Fin cfg2.N, cond2 (grid2.coords t) → cfg2.idle 5 (grid2.coords t) = false := by decide +kernel

/-- What the body is called with at point `t`, the windows one by one, -/
def bodyPre (c : Dev nD) (t : Fin cfg2.N) : sProp (MT nD τ sig (HIx 1) (Elt F) ℕ UU ℕ) :=
  iprop((dat V O B c).Φ t.castSucc ∗ (dat V O B c).owesAt none t.castSucc
    ∗ (∃ d, owns (c : Thread nD τ) (st2_0 t) fullShare ((dat V O B c).before 0 t d))
    ∗ (∃ d, owns (c : Thread nD τ) (st2_1 t) fullShare ((dat V O B c).before 1 t d))
    ∗ (∃ d, owns (c : Thread nD τ) (st2_2 t) fullShare ((dat V O B c).before 2 t d))
    ∗ (∃ d, owns (c : Thread nD τ) (st2_3 t) fullShare ((dat V O B c).before 3 t d))
    ∗ (∃ d, owns (c : Thread nD τ) (st2_4 t) fullShare ((dat V O B c).before 4 t d))
    ∗ (∃ d, owns (c : Thread nD τ) (st2_5 t) fullShare ((dat V O B c).before 5 t d)))

/-- and what it returns. -/
def bodyPost (c : Dev nD) (t : Fin cfg2.N) : sProp (MT nD τ sig (HIx 1) (Elt F) ℕ UU ℕ) :=
  iprop((dat V O B c).Φ t.succ ∗ (dat V O B c).owesAt none t.succ
    ∗ (dat V O B c).leavesExact 0 t
    ∗ (dat V O B c).leavesExact 1 t
    ∗ (dat V O B c).leavesExact 2 t
    ∗ (dat V O B c).leavesExact 3 t
    ∗ (dat V O B c).leavesExact 4 t
    ∗ (dat V O B c).leavesExact 5 t)

theorem sound_body (c : Dev nD) (t : Fin cfg2.N) :
    bodyPre V O B c t ⊢ wp frame (wpE (defs₀ (F := F)) Variants.none c none) Set.univ (bodyAt2 t) (fun _ => bodyPost V O B c t) := by
  unfold bodyPre bodyPost bodyAt2
  simp only [before0, before1, before2, before3, before4]
  rw [show (dat V O B c).Φ t.succ = Phi V c (t.val + 1) from rfl, show (dat V O B c).Φ t.castSucc = Phi V c t.val from rfl,
    show (dat V O B c).owesAt none t.succ = (dat V O B c).owesAt none t.castSucc from rfl,
    leaves0, leaves1, leaves2, leaves3, leaves4]
  have hN : t.val < 5 := lt_of_lt_of_eq t.isLt (show cfg2.N = 5 from N_2)
  rw [show Phi V c (t.val + 1) = iprop(anyAt c cc0_stg0_0 ∗ anyAt c cc0_stg0_1 ∗ anyAt c cc0_stg1_0 ∗ anyAt c cc0_stg2_0 ∗ anyAt c cc0_stg2_1
      ∗ owns (c : Thread nD τ) (Memref.whole cc2_scratch0) fullShare (stAt V c (t.val + 1)).m
      ∗ owns (c : Thread nD τ) (Memref.whole cc2_scratch1) fullShare (stAt V c (t.val + 1)).d
      ∗ owns (c : Thread nD τ) (Memref.whole cc2_scratch2) fullShare (stAt V c (t.val + 1)).g) from rfl]
  by_cases h1 : cond2 (grid2.coords t)
  · rw [show (dat V O B c).leavesExact 5 t = owns (c : Thread nD τ) (st2_5 t) fullShare ((dat V O B c).after 5 t) from by
      unfold Dat.leavesExact; rw [live5 t h1], after5]
    have h4 := (hcond2 t).mp h1
    have h0 : ¬cond1 (grid2.coords t) := fun h => by have := (hcond1 t).mp h; omega
    obtain ⟨k, hk⟩ : ∃ k, t.val = k + 1 := ⟨t.val - 1, by omega⟩
    rw [stAt_succ, show Phi V c t.val = iprop(anyAt c cc0_stg0_0 ∗ anyAt c cc0_stg0_1 ∗ anyAt c cc0_stg1_0 ∗ anyAt c cc0_stg2_0 ∗ anyAt c cc0_stg2_1
      ∗ owns (c : Thread nD τ) (Memref.whole cc2_scratch0) fullShare (stAt V c t.val).m
      ∗ owns (c : Thread nD τ) (Memref.whole cc2_scratch1) fullShare (stAt V c t.val).d
      ∗ owns (c : Thread nD τ) (Memref.whole cc2_scratch2) fullShare (stAt V c t.val).g) from by rw [hk]; rfl]
    iintro ⟨⟨HA0, HA1, HA2, HA3, HA4, HS0, HS1, HS2⟩, Ho, ⟨%d0, H0⟩, ⟨%d1, H1⟩, ⟨%d2, H2⟩, ⟨%d3, H3⟩, ⟨%d4, H4⟩, ⟨%d5, H5⟩⟩
    iapply (sound_last c Set.univ (grid2.coords t) _ _ _ _ _ _ _ _ _ _ _ _ _ _ _ _ _ _ h0 h1 (iblk V c 0 t) (iblk V c 1 t) (iblk V c 2 t) (iblk V c 3 t) (iblk V c 4 t) (stAt V c t.val) _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    isplitl [HS1]; · iexact HS1
    isplitl [HS2]; · iexact HS2
    iintro ⟨H0, H1, H2, H3, H4, H5, HS0, HS1, HS2⟩
    isplitl [HA0 HA1 HA2 HA3 HA4 HS0 HS1 HS2]
    · isplitl [HA0]; · iexact HA0
      isplitl [HA1]; · iexact HA1
      isplitl [HA2]; · iexact HA2
      isplitl [HA3]; · iexact HA3
      isplitl [HA4]; · iexact HA4
      isplitl [HS0]; · iexact HS0
      isplitl [HS1]; · iexact HS1
      iexact HS2
    isplitl [Ho]; · iexact Ho
    isplitl [H0]; · iexact H0
    isplitl [H1]; · iexact H1
    isplitl [H2]; · iexact H2
    isplitl [H3]; · iexact H3
    isplitl [H4]; · iexact H4
    iexact H5
  · rw [Dat.leavesExact_idle (dat V O B c) 5 t (idle5 t h1) (noFlush5 t h1)]
    by_cases h0 : cond1 (grid2.coords t)
    · have hz : t.val = 0 := by have := (hcond1 t).mp h0; omega
      rw [stAt_succ, show Phi V c t.val = Pipeline.scopedRest spec2 c from by rw [hz]; rfl, rest_eq, show stAt V c t.val = init from by rw [hz]; rfl]
      iintro ⟨⟨HA0, HA1, HA2, HA3, HA4, HS0, HS1, HS2⟩, Ho, ⟨%d0, H0⟩, ⟨%d1, H1⟩, ⟨%d2, H2⟩, ⟨%d3, H3⟩, ⟨%d4, H4⟩, ⟨%d5, H5⟩⟩
      iapply (sound_first c Set.univ (grid2.coords t) _ _ _ _ _ _ _ _ _ _ _ _ _ _ _ _ _ _ h0 h1 (iblk V c 0 t) (iblk V c 1 t) (iblk V c 2 t) (iblk V c 3 t) (iblk V c 4 t) _ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      iintro ⟨H0, H1, H2, H3, H4, H5, HS0, HS1, HS2⟩
      isplitl [HA0 HA1 HA2 HA3 HA4 HS0 HS1 HS2]
      · isplitl [HA0]; · iexact HA0
        isplitl [HA1]; · iexact HA1
        isplitl [HA2]; · iexact HA2
        isplitl [HA3]; · iexact HA3
        isplitl [HA4]; · iexact HA4
        isplitl [HS0]; · iexact HS0
        isplitl [HS1]; · iexact HS1
        iexact HS2
      isplitl [Ho]; · iexact Ho
      isplitl [H0]; · iexact H0
      isplitl [H1]; · iexact H1
      isplitl [H2]; · iexact H2
      isplitl [H3]; · iexact H3
      isplitl [H4]; · iexact H4
      iexists _; iexact H5
    · have hz : t.val ≠ 0 := fun hz => h0 ((hcond1 t).mpr (by omega))
      obtain ⟨k, hk⟩ : ∃ k, t.val = k + 1 := ⟨t.val - 1, by omega⟩
      rw [stAt_succ, show Phi V c t.val = iprop(anyAt c cc0_stg0_0 ∗ anyAt c cc0_stg0_1 ∗ anyAt c cc0_stg1_0 ∗ anyAt c cc0_stg2_0 ∗ anyAt c cc0_stg2_1
        ∗ owns (c : Thread nD τ) (Memref.whole cc2_scratch0) fullShare (stAt V c t.val).m
        ∗ owns (c : Thread nD τ) (Memref.whole cc2_scratch1) fullShare (stAt V c t.val).d
        ∗ owns (c : Thread nD τ) (Memref.whole cc2_scratch2) fullShare (stAt V c t.val).g) from by rw [hk]; rfl]
      iintro ⟨⟨HA0, HA1, HA2, HA3, HA4, HS0, HS1, HS2⟩, Ho, ⟨%d0, H0⟩, ⟨%d1, H1⟩, ⟨%d2, H2⟩, ⟨%d3, H3⟩, ⟨%d4, H4⟩, ⟨%d5, H5⟩⟩
      iapply (sound_mid c Set.univ (grid2.coords t) _ _ _ _ _ _ _ _ _ _ _ _ _ _ _ _ _ _ h0 h1 (iblk V c 0 t) (iblk V c 1 t) (iblk V c 2 t) (iblk V c 3 t) (iblk V c 4 t) _ (stAt V c t.val) _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      iintro ⟨H0, H1, H2, H3, H4, H5, HS0, HS1, HS2⟩
      isplitl [HA0 HA1 HA2 HA3 HA4 HS0 HS1 HS2]
      · isplitl [HA0]; · iexact HA0
        isplitl [HA1]; · iexact HA1
        isplitl [HA2]; · iexact HA2
        isplitl [HA3]; · iexact HA3
        isplitl [HA4]; · iexact HA4
        isplitl [HS0]; · iexact HS0
        isplitl [HS1]; · iexact HS1
        iexact HS2
      isplitl [Ho]; · iexact Ho
      isplitl [H0]; · iexact H0
      isplitl [H1]; · iexact H1
      isplitl [H2]; · iexact H2
      isplitl [H3]; · iexact H3
      isplitl [H4]; · iexact H4
      iexists _; iexact H5

theorem defs₀_row (t : Fin cfg2.N) :
    defs₀ (F := F) .tc cfg2.body (cfg2.bodyArgs t (cfg2.slots t)) = bodyAt2 t := rfl

theorem body_obligation (c : Dev nD) : BodyObligation (dat V O B c) (defs₀ (F := F)) Variants.none none Set.univ := fun t => by
  rw [bigSep_W2, bigSep_W2, defs₀_row]
  exact triple_restated (sound_body V O B c t) rfl .rfl fun _ => .rfl

/-- What the launch hands the region is the invariant before the first point, -/
theorem hin (c : Dev nD) : Pipeline.scopedRest spec2 c ⊢ (dat V O B c).Φ 0 := Idealize.SL.BI.Entails.refl _

/-- and after the last point the scratch's contents are forgotten. -/
theorem hout (c : Dev nD) : (dat V O B c).Φ (Fin.last cfg2.N) ⊢ Pipeline.scopedRest spec2 c := by
  rw [rest_eq, show (dat V O B c).Φ (Fin.last cfg2.N) = Phi V c (4 + 1) from rfl]
  unfold Phi
  iintro ⟨HA0, HA1, HA2, HA3, HA4, HS0, HS1, HS2⟩
  isplitl [HA0]; · iexact HA0
  isplitl [HA1]; · iexact HA1
  isplitl [HA2]; · iexact HA2
  isplitl [HA3]; · iexact HA3
  isplitl [HA4]; · iexact HA4
  isplitl [HS0]; · iexists _; iexact HS0
  isplitl [HS1]; · iexists _; iexact HS1
  iexists _; iexact HS2

/-! ## The array it leaves -/

/-- The thirty-two rows of partial sums that point `t` reads. -/
def prows (p : S5x32x2000.Idx → Elt F .f32) (t : Fin 5) : Vec F S1x32x2000 .f32 := fun j =>
  p (fun | 0 => t | 1 => j 1 | 2 => j 2 | ⟨_ + 3, h⟩ => absurd h (Nat.not_lt.2 (Nat.le_add_left _ _)))

/-- The graph numbers that point `t` reads. -/
def brows (b : S5x1x2000.Idx → Elt F .i32) (t : Fin 5) : Vec F S1x1x2000 .i32 := fun j =>
  b (fun | 0 => t | 1 => j 1 | 2 => j 2 | ⟨_ + 3, h⟩ => absurd h (Nat.not_lt.2 (Nat.le_add_left _ _)))

/-- The state after the first `n` points, from the arrays. -/
def poolSt (x : S10000x128.Idx → Elt F .f32) (p : S5x32x2000.Idx → Elt F .f32) (b : S5x1x2000.Idx → Elt F .i32) (w : Vec F S1x128 .f32) (r : Vec F S1x1 .f32) : ℕ → St F
  | 0 => init
  | n + 1 => if h : n < 5 then step (Proj.xrows x ⟨n, h⟩) (prows p ⟨n, h⟩) (brows b ⟨n, h⟩) w r (poolSt x p b w r n) else poolSt x p b w r n

/-- The pooled array. -/
def poolOf (x : S10000x128.Idx → Elt F .f32) (p : S5x32x2000.Idx → Elt F .f32) (b : S5x1x2000.Idx → Elt F .i32) (w : Vec F S1x128 .f32) (r : Vec F S1x1 .f32) : S64x128.Idx → Elt F .f32 :=
  out (poolSt x p b w r 5)

theorem idx_facts : ∀ t : Fin cfg2.N, (win2_0.index t (0 : Fin 2) = t.val ∧ win2_0.index t (1 : Fin 2) = 0)
    ∧ (win2_1.index t (0 : Fin 3) = t.val ∧ win2_1.index t (1 : Fin 3) = 0 ∧ win2_1.index t (2 : Fin 3) = 0)
    ∧ (win2_2.index t (0 : Fin 3) = t.val ∧ win2_2.index t (1 : Fin 3) = 0 ∧ win2_2.index t (2 : Fin 3) = 0)
    ∧ (win2_3.index t (0 : Fin 2) = 0 ∧ win2_3.index t (1 : Fin 2) = 0)
    ∧ (win2_4.index t (0 : Fin 2) = 0 ∧ win2_4.index t (1 : Fin 2) = 0)
    ∧ (win2_5.index t (0 : Fin 2) = 0 ∧ win2_5.index t (1 : Fin 2) = 0) :=
  (by decide +kernel : ∀ t : Fin grid2.N, _)

theorem iblk0_eq (c : Dev nD) (t : Fin cfg2.N) : iblk V c 0 t = Proj.xrows (V c main_arg0) ⟨t.val, lt_of_lt_of_eq t.isLt N_2⟩ := by
  obtain ⟨⟨e0, e1⟩, -⟩ := idx_facts t
  funext j
  show V c main_arg0 (((cfg2.win 0).blk t).view.emb j) = _
  refine congrArg (V c main_arg0) (funext fun a => Fin.ext ?_)
  match a with
  | ⟨0, _⟩ => show win2_0.index t (0 : Fin 2) * 2000 + 1 * (j 0).val = 2000 * t.val + (j 0).val; rw [e0]; omega
  | ⟨1, _⟩ => show win2_0.index t (1 : Fin 2) * 128 + 1 * (j 1).val = (j 1).val; rw [e1]; omega

theorem iblk1_eq (c : Dev nD) (t : Fin cfg2.N) : iblk V c 1 t = prows (V c main_v7) ⟨t.val, lt_of_lt_of_eq t.isLt N_2⟩ := by
  obtain ⟨-, ⟨e0, e1, e2⟩, -⟩ := idx_facts t
  funext j
  have hj : (j 0).val < 1 := (j 0).isLt
  show V c main_v7 (((cfg2.win 1).blk t).view.emb j) = _
  refine congrArg (V c main_v7) (funext fun a => Fin.ext ?_)
  match a with
  | ⟨0, _⟩ => show win2_1.index t (0 : Fin 3) * 1 + 1 * (j 0).val = t.val; rw [e0]; omega
  | ⟨1, _⟩ => show win2_1.index t (1 : Fin 3) * 32 + 1 * (j 1).val = (j 1).val; rw [e1]; omega
  | ⟨2, _⟩ => show win2_1.index t (2 : Fin 3) * 2000 + 1 * (j 2).val = (j 2).val; rw [e2]; omega

theorem iblk2_eq (c : Dev nD) (t : Fin cfg2.N) : iblk V c 2 t = brows (V c main_v8) ⟨t.val, lt_of_lt_of_eq t.isLt N_2⟩ := by
  obtain ⟨-, -, ⟨e0, e1, e2⟩, -⟩ := idx_facts t
  funext j
  have hj : (j 0).val < 1 := (j 0).isLt
  show V c main_v8 (((cfg2.win 2).blk t).view.emb j) = _
  refine congrArg (V c main_v8) (funext fun a => Fin.ext ?_)
  match a with
  | ⟨0, _⟩ => show win2_2.index t (0 : Fin 3) * 1 + 1 * (j 0).val = t.val; rw [e0]; omega
  | ⟨1, _⟩ => show win2_2.index t (1 : Fin 3) * 1 + 1 * (j 1).val = (j 1).val; rw [e1]; omega
  | ⟨2, _⟩ => show win2_2.index t (2 : Fin 3) * 2000 + 1 * (j 2).val = (j 2).val; rw [e2]; omega

theorem iblk3_eq (c : Dev nD) (t : Fin cfg2.N) : iblk V c 3 t = V c main_v9 := by
  obtain ⟨-, -, -, ⟨e0, e1⟩, -⟩ := idx_facts t
  funext j
  show V c main_v9 (((cfg2.win 3).blk t).view.emb j) = _
  refine congrArg (V c main_v9) (funext fun a => Fin.ext ?_)
  match a with
  | ⟨0, _⟩ => show win2_3.index t (0 : Fin 2) * 1 + 1 * (j 0).val = (j 0).val; rw [e0]; omega
  | ⟨1, _⟩ => show win2_3.index t (1 : Fin 2) * 128 + 1 * (j 1).val = (j 1).val; rw [e1]; omega

theorem iblk4_eq (c : Dev nD) (t : Fin cfg2.N) : iblk V c 4 t = V c main_v10 := by
  obtain ⟨-, -, -, -, ⟨e0, e1⟩, -⟩ := idx_facts t
  funext j
  show V c main_v10 (((cfg2.win 4).blk t).view.emb j) = _
  refine congrArg (V c main_v10) (funext fun a => Fin.ext ?_)
  match a with
  | ⟨0, _⟩ => show win2_4.index t (0 : Fin 2) * 1 + 1 * (j 0).val = (j 0).val; rw [e0]; omega
  | ⟨1, _⟩ => show win2_4.index t (1 : Fin 2) * 1 + 1 * (j 1).val = (j 1).val; rw [e1]; omega

theorem stAt_eq (c : Dev nD) : ∀ n, stAt V c n = poolSt (V c main_arg0) (V c main_v7) (V c main_v8) (V c main_v9) (V c main_v10) n
  | 0 => rfl
  | n + 1 => by
    by_cases h : n < 5
    · rw [show stAt V c (n + 1) = _ from stAt_succ V c ⟨n, lt_of_lt_of_eq h N_2.symm⟩, iblk0_eq, iblk1_eq, iblk2_eq, iblk3_eq, iblk4_eq]
      show step _ _ _ _ _ (stAt V c n) = _
      rw [stAt_eq c n]
      rw [poolSt, dif_pos h]
    · have h' : ¬n < cfg2.N := fun hh => h (lt_of_lt_of_eq hh N_2)
      rw [show stAt V c (n + 1) = stAt V c n from dif_neg h', stAt_eq c n]
      rw [poolSt, dif_neg h]

theorem blk5_emb (t : Fin cfg2.N) (y : S64x128.Idx) : ((cfg2.win 5).blk t).view.emb y = y := by
  obtain ⟨-, -, -, -, -, ⟨e0, e1⟩⟩ := idx_facts t
  funext a; apply Fin.ext
  match a with
  | ⟨0, _⟩ => show win2_5.index t (0 : Fin 2) * 64 + 1 * (y 0).val = (y 0).val; rw [e0]; omega
  | ⟨1, _⟩ => show win2_5.index t (1 : Fin 2) * 128 + 1 * (y 1).val = (y 1).val; rw [e1]; omega

theorem flushed_eq (c : Dev nD) (t : Fin cfg2.N) (hf : (cfg2.win 5).flush t = true) :
    (dat V O B c).flushed 5 t = ((cfg2.win 5).blk t).view.read (Elt F) (poolOf (V c main_arg0) (V c main_v7) (V c main_v8) (V c main_v9) (V c main_v10)) := by
  show (cfg2.win 5).cut (grid2.coords t) ((dat V O B c).after 5 t) = _
  have hN : t.val < 5 := lt_of_lt_of_eq t.isLt (show cfg2.N = 5 from N_2)
  have h4 : t.val = 4 := by have := (flush2_5 t).mp hf; omega
  rw [after5, stAt_eq, h4]
  funext y
  show _ = poolOf (V c main_arg0) (V c main_v7) (V c main_v8) (V c main_v9) (V c main_v10) (((cfg2.win 5).blk t).view.emb y)
  rw [show ((cfg2.win 5).blk t).view.emb y = y from blk5_emb t y]
  rfl

theorem mem_blk (t : Fin cfg2.N) (i : S64x128.Idx) :
    i ∈ ((cfg2.win 5).blk t).view.set ↔ ∀ a : Fin 2, win2_5.index t a * S64x128.size a ≤ (i a).val ∧ (i a).val < win2_5.index t a * S64x128.size a + S64x128.size a := by
  show i ∈ ((View.whole main_v11).slice (win2_5.rect t)).set ↔ _
  rw [View.set_slice_whole, Rect.mem_set_unit]
  exact Iff.rfl

/-- The array after the call is `poolOf` of the arrays before it. -/
theorem final (c : Dev nD) : (dat V O B c).arrAt 5 cfg2.N = poolOf (V c main_arg0) (V c main_v7) (V c main_v8) (V c main_v9) (V c main_v10) :=
  (dat V O B c).arrAt_eq_of_cover 5 _ (fun t hf => flushed_eq V O B c t hf) (fun i => by
    have h0 : (i 0).val < 64 := (i 0).isLt
    have h1 : (i 1).val < 128 := (i 1).isLt
    refine ⟨⟨4, lt_of_lt_of_eq (by decide) N_2.symm⟩, (flush2_5 _).mpr rfl, ?_⟩
    obtain ⟨-, -, -, -, -, ⟨e0, e1⟩⟩ := idx_facts ⟨4, lt_of_lt_of_eq (by decide) N_2.symm⟩
    rw [mem_blk]
    intro a
    match a with
    | ⟨0, _⟩ => show win2_5.index _ (0 : Fin 2) * 64 ≤ (i 0).val ∧ (i 0).val < win2_5.index _ (0 : Fin 2) * 64 + 64; rw [e0]; omega
    | ⟨1, _⟩ => show win2_5.index _ (1 : Fin 2) * 128 ≤ (i 1).val ∧ (i 1).val < win2_5.index _ (1 : Fin 2) * 128 + 128; rw [e1]; omega)

end Pool

end Cert.Proof.KI

end
-- ==== Proof.KI.Vals.lean ====
/-
  What the arrays of @main hold between its statements, as functions of the memory at the launch.
-/
module

public import proofs.«01_k».proof.Proof.KI.Spec
public import proofs.«01_k».proof.Proof.KI.Proj
public import proofs.«01_k».proof.Proof.KI.Pool

@[expose] public section

noncomputable section

namespace Cert.Proof.KI

open Cert.KernelIdeal Cert.KernelIdeal.Gen

open Idealize.ShloMosaic Idealize.ShloMosaic.StableHlo
open Idealize.ShloMosaic.SparseCore (S V T)
open Idealize.SL Idealize.SL.RA Idealize.SL.BI

variable {F : FTy → Type} [FloatOps F]

/-- The arrays of @main, as device buffers. -/
abbrev dv (b : Ref sig .tc) : DevRef τ sig := Proc.devRef .tc b

abbrev op0 : HloOp τ sig (Elt F) := StableHlo.reshape main_arg3 main_v0 (rfl : (.f32 : EltTy) = .f32) shapeCasts_S128x1_S1x128
abbrev op2 : HloOp τ sig (Elt F) := StableHlo.reshape main_v1 main_v2 (rfl : (.f32 : EltTy) = .f32) shapeCasts_S5x1x2000_S10000
abbrev op3 : HloOp τ sig (Elt F) := StableHlo.unary main_arg1 main_v3 ((extractStridedSlice S1x320000 ![0, 0] · slices_S2x320000_S1x320000_0_0) : (⟨S2x320000, .i32⟩ : BufTy).Contents (Elt F) → (⟨S1x320000, .i32⟩ : BufTy).Contents (Elt F))
abbrev op4 : HloOp τ sig (Elt F) := StableHlo.reshape main_v3 main_v4 (rfl : (.i32 : EltTy) = .i32) shapeCasts_S1x320000_S320000
abbrev op5 : HloOp τ sig (Elt F) := StableHlo.unary main_arg1 main_v5 ((extractStridedSlice S1x320000 ![1, 0] · slices_S2x320000_S1x320000_1_0) : (⟨S2x320000, .i32⟩ : BufTy).Contents (Elt F) → (⟨S1x320000, .i32⟩ : BufTy).Contents (Elt F))
abbrev op6 : HloOp τ sig (Elt F) := StableHlo.reshape main_v5 main_v6 (rfl : (.i32 : EltTy) = .i32) shapeCasts_S1x320000_S320000
abbrev op8 : HloOp τ sig (Elt F) := StableHlo.reshape main_arg2 main_v8 (rfl : (.i32 : EltTy) = .i32) shapeCasts_S10000_S5x1x2000
abbrev op9 : HloOp τ sig (Elt F) := StableHlo.reshape main_arg5 main_v9 (rfl : (.f32 : EltTy) = .f32) shapeCasts_S128x1_S1x128
abbrev op10 : HloOp τ sig (Elt F) := StableHlo.reshape main_arg4 main_v10 (rfl : (.f32 : EltTy) = .f32) shapeCasts_S1_S1x1

variable (m : (ℓ : Loc nD τ sig) → Buf (Elt F) ℓ) (d : Dev nD)

/-- Every word of the edge list names a node. -/
def InRange : Prop := ∀ (d : Dev nD) (j : S2x320000.Idx), ((m ((SparseCore.T d).loc (main_arg1 : Ref sig .tc)) : S2x320000.Idx → BitVec 32) j).toNat < 10000

/-- At the launch; -/
def U0 : Valuation τ sig (Elt F) := fun b => m (d, b)
/-- before the projection; -/
def U1 : Valuation τ sig (Elt F) := (op0 (F := F)).result (U0 m d)
/-- after it; -/
def U2 : Valuation τ sig (Elt F) :=
  Function.update (U1 m d) (dv main_v1) (Proj.projOf (U1 m d (dv main_arg0)) (U1 m d (dv main_v0)) : S5x1x2000.Idx → Elt F .f32)
theorem U2_self : U2 m d (dv main_v1) = (Proj.projOf (U1 m d (dv main_arg0)) (U1 m d (dv main_v0)) : S5x1x2000.Idx → Elt F .f32) := Function.update_self _ _ _
theorem U2_ne {r : DevRef τ sig} (hr : r ≠ dv main_v1) : U2 m d r = U1 m d r := Function.update_of_ne hr _ _
/-- before the SparseCore call; -/
def U3 : Valuation τ sig (Elt F) := (op2 (F := F)).result (U2 m d)
def U4 : Valuation τ sig (Elt F) := (op3 (F := F)).result (U3 m d)
def U5 : Valuation τ sig (Elt F) := (op4 (F := F)).result (U4 m d)
def U6 : Valuation τ sig (Elt F) := (op5 (F := F)).result (U5 m d)
def U7 : Valuation τ sig (Elt F) := (op6 (F := F)).result (U6 m d)

/-- The node values, the sources and the targets the call reads. -/
def yv : S10000.Idx → Elt F .f32 := U7 m d (dv main_v2)
def sv : S320000.Idx → BitVec 32 := U7 m d (dv main_v4)
def tv : S320000.Idx → BitVec 32 := U7 m d (dv main_v6)

theorem sv_eq : sv m d = shapeCast S320000 (extractStridedSlice S1x320000 ![0, 0] (m ((SparseCore.T d).loc (main_arg1 : Ref sig .tc)) : S2x320000.Idx → BitVec 32) slices_S2x320000_S1x320000_0_0) shapeCasts_S1x320000_S320000 := by
  unfold sv
  simp (disch := decide) only [U7, U6, U5, U4, U3, U2, U1, reshape_result', unary_result', reshape_result_ne', unary_result_ne', Function.update_of_ne, Function.update_self]
  rfl
theorem tv_eq : tv m d = shapeCast S320000 (extractStridedSlice S1x320000 ![1, 0] (m ((SparseCore.T d).loc (main_arg1 : Ref sig .tc)) : S2x320000.Idx → BitVec 32) slices_S2x320000_S1x320000_1_0) shapeCasts_S1x320000_S320000 := by
  unfold tv
  simp (disch := decide) only [U7, U6, U5, U4, U3, U2, U1, reshape_result', unary_result', reshape_result_ne', unary_result_ne', Function.update_of_ne, Function.update_self]
  rfl

variable {m} in
theorem sv_lt (h : InRange m) (j : S320000.Idx) : (sv m d j).toNat < 10000 := by rw [sv_eq]; exact h d _
variable {m} in
theorem tv_lt (h : InRange m) (j : S320000.Idx) : (tv m d j).toNat < 10000 := by rw [tv_eq]; exact h d _

variable (h : InRange m)

/-- The partial sums the call leaves. -/
def pv : S5x32x2000.Idx → Elt F .f32 := partsOf (yv m d) (sv m d) (tv m d) (sv_lt d h) (tv_lt d h)

/-- After the call; -/
def U8 : Valuation τ sig (Elt F) := Function.update (U7 m d) (dv main_v7) (pv m d h)
/-- before the pooling; -/
def U9 : Valuation τ sig (Elt F) := (op8 (F := F)).result (U8 m d h)
def U10 : Valuation τ sig (Elt F) := (op9 (F := F)).result (U9 m d h)
def U11 : Valuation τ sig (Elt F) := (op10 (F := F)).result (U10 m d h)

/-- The result. -/
def rv : S64x128.Idx → Elt F .f32 :=
  Pool.poolOf (U11 m d h (dv main_arg0)) (U11 m d h (dv main_v7)) (U11 m d h (dv main_v8)) (U11 m d h (dv main_v9)) (U11 m d h (dv main_v10))

/-- At the end. -/
def U12 : Valuation τ sig (Elt F) := Function.update (U11 m d h) (dv main_v11) (rv m d h)

theorem U12_res : U12 m d h (dv main_v11) = rv m d h := Function.update_self _ _ _
theorem U12_ne {r : DevRef τ sig} (hr : r ≠ dv main_v11) : U12 m d h r = U11 m d h r := Function.update_of_ne hr _ _
theorem U12_arg0 : U12 m d h (dv main_arg0) = m ((SparseCore.T d).loc (main_arg0 : Ref sig .tc)) := by
  simp (disch := decide) only [U12, U11, U10, U9, U8, U7, U6, U5, U4, U3, U2, U1, reshape_result', unary_result', reshape_result_ne', unary_result_ne', Function.update_of_ne, Function.update_self]
  rfl
theorem U12_arg1 : U12 m d h (dv main_arg1) = m ((SparseCore.T d).loc (main_arg1 : Ref sig .tc)) := by
  simp (disch := decide) only [U12, U11, U10, U9, U8, U7, U6, U5, U4, U3, U2, U1, reshape_result', unary_result', reshape_result_ne', unary_result_ne', Function.update_of_ne, Function.update_self]
  rfl
theorem U12_arg2 : U12 m d h (dv main_arg2) = m ((SparseCore.T d).loc (main_arg2 : Ref sig .tc)) := by
  simp (disch := decide) only [U12, U11, U10, U9, U8, U7, U6, U5, U4, U3, U2, U1, reshape_result', unary_result', reshape_result_ne', unary_result_ne', Function.update_of_ne, Function.update_self]
  rfl
theorem U12_arg3 : U12 m d h (dv main_arg3) = m ((SparseCore.T d).loc (main_arg3 : Ref sig .tc)) := by
  simp (disch := decide) only [U12, U11, U10, U9, U8, U7, U6, U5, U4, U3, U2, U1, reshape_result', unary_result', reshape_result_ne', unary_result_ne', Function.update_of_ne, Function.update_self]
  rfl
theorem U12_arg4 : U12 m d h (dv main_arg4) = m ((SparseCore.T d).loc (main_arg4 : Ref sig .tc)) := by
  simp (disch := decide) only [U12, U11, U10, U9, U8, U7, U6, U5, U4, U3, U2, U1, reshape_result', unary_result', reshape_result_ne', unary_result_ne', Function.update_of_ne, Function.update_self]
  rfl
theorem U12_arg5 : U12 m d h (dv main_arg5) = m ((SparseCore.T d).loc (main_arg5 : Ref sig .tc)) := by
  simp (disch := decide) only [U12, U11, U10, U9, U8, U7, U6, U5, U4, U3, U2, U1, reshape_result', unary_result', reshape_result_ne', unary_result_ne', Function.update_of_ne, Function.update_self]
  rfl

/-- The result as one function of the argument arrays. -/
theorem rv_eq : rv m d h = Pool.poolOf (m ((SparseCore.T d).loc (main_arg0 : Ref sig .tc)) : S10000x128.Idx → Elt F .f32) (pv m d h)
      (shapeCast S5x1x2000 (m ((SparseCore.T d).loc (main_arg2 : Ref sig .tc)) : S10000.Idx → BitVec 32) shapeCasts_S10000_S5x1x2000)
      (shapeCast S1x128 (m ((SparseCore.T d).loc (main_arg5 : Ref sig .tc)) : S128x1.Idx → Elt F .f32) shapeCasts_S128x1_S1x128)
      (shapeCast S1x1 (m ((SparseCore.T d).loc (main_arg4 : Ref sig .tc)) : S1.Idx → Elt F .f32) shapeCasts_S1_S1x1) := by
  unfold rv
  simp (disch := decide) only [U11, U10, U9, U8, U7, U6, U5, U4, U3, U2, U1, reshape_result', unary_result', reshape_result_ne', unary_result_ne', Function.update_of_ne, Function.update_self]
  rfl

theorem yv_eq : yv m d = shapeCast S10000 (Proj.projOf (m ((SparseCore.T d).loc (main_arg0 : Ref sig .tc)) : S10000x128.Idx → Elt F .f32)
    (shapeCast S1x128 (m ((SparseCore.T d).loc (main_arg3 : Ref sig .tc)) : S128x1.Idx → Elt F .f32) shapeCasts_S128x1_S1x128)) shapeCasts_S5x1x2000_S10000 := by
  unfold yv
  simp (disch := decide) only [U7, U6, U5, U4, U3, U2, U1, reshape_result', unary_result', reshape_result_ne', unary_result_ne', Function.update_of_ne, Function.update_self]
  rfl

end Cert.Proof.KI

end
-- ==== Proof.KI.Regions.lean ====
/-
  The two TensorCore calls as regions of @main: each entered holding its arrays at one valuation and left holding them at
  the next, the thread owing throughout what it owes the SparseCores.
-/
module

public import Idealize.ShloMosaic.Lib.Pipeline.Regions
public import Idealize.ShloMosaic.Lib.Pipeline.RegionArrays
public import proofs.«01_k».proof.Proof.KI.Vals

@[expose] public section

noncomputable section

namespace Cert.Proof.KI

open Cert.KernelIdeal Cert.KernelIdeal.Gen

open Idealize.ShloMosaic Idealize.ShloMosaic.TcCoe
open Idealize.ShloMosaic.StableHlo (held)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat RegionSeg PLaunchFacts pin arrRefs arrRef owesWithin scopedRest prefHeld_of_none)

variable {F : FTy → Type} [FloatOps F]

/-- No pipeline prefetches a table. -/
abbrev adm : (p : Fin 2) → (pcfgs (F := F) p).Adm := fun p => (cfgs p).toPCfg_adm

/-- One call, one stage. -/
abbrev zb : SparseCore.Cfg.Blocks 1 1 := inferInstance

/-- The waits a TensorCore may have recorded before call `n`. -/
def seen (n : ℕ) (c : Dev nD) : Set (SemLoc sig × HIx 1) := {p | (K (F := F)).lev (SparseCore.T c, p.1) p.2 ≤ 8 * zb.fst n}

variable (m : (ℓ : Loc nD τ sig) → Buf (Elt F) ℓ) (h : InRange m)

abbrev dat0 (c : Dev nD) : Dat τ (Elt F) (HIx 1) ℕ UU ℕ cfg0 c :=
  Proj.dat (fun c b => U1 m c (dv b)) (fun c => (K (F := F)).Otc c 0) (seen (F := F) 0) c
abbrev dat1 (c : Dev nD) : Dat τ (Elt F) (HIx 1) ℕ UU ℕ cfg2 c :=
  Pool.dat (fun c b => U11 m c h (dv b)) (fun c => (K (F := F)).Otc c 1) (seen (F := F) 1) c

/-- The two pipelines' proof data, each at the arrays it finds. -/
def pdats : (p : Fin 2) → (c : Dev nD) → Dat τ (Elt F) (HIx 1) ℕ UU ℕ (pin (pcfgs (F := F)) adm p) c
  | ⟨0, _⟩ => dat0 m
  | ⟨1, _⟩ => dat1 m h
  | ⟨n + 2, hn⟩ => absurd hn (Nat.not_lt.2 (Nat.le_add_left _ _))

/-- What the TensorCore owes the SparseCores before call `n`, its recorded waits low. -/
def owing (n : ℕ) (c : Dev nD) : sProp (MT nD τ sig (HIx 1) (Elt F) ℕ UU ℕ) :=
  iprop(∃ W : Waits sig (HIx 1), ⌜(K (F := F)).WBelow (SparseCore.T c) W (8 * zb.fst n)⌝ ∗ owes (SparseCore.T c) ((K (F := F)).Otc c n) W)

omit [FloatOps F] in
theorem Otc_none (c : Dev nD) (n : ℕ) (g : GSem nD τ sig) : (K (F := F)).Otc (N := 1) c n g none = 0 := by
  by_contra hne
  have := SparseCore.Cfg.lev_of_Otc_pos (K := K (F := F)) (d := c) (n := n) (g := g) (ι := none) (Nat.pos_of_ne_zero hne)
  rw [SparseCore.Cfg.lev_none] at this
  omega

/-- A pipeline as a region: its arrays at `W` before and at `W'` after. -/
def seg (p : Fin 2) (n : ℕ) (kit : PLaunchFacts (nD := nD) (τ := τ) (pcfgs (F := F)) p) (hK : (pcfgs (F := F) p).pre.K = 0)
    (W W' : Dev nD → Valuation τ sig (Elt F))
    (hbody : ∀ c, Pipeline.BodyObligationLoose (pdats m h p c) (defs₀ (F := F)) 𝒱₀ none Set.univ)
    (hshare : ∀ c w, (pdats m h p c).share w = fullShare)
    (howed : ∀ c t, (pdats m h p c).owed t = (K (F := F)).Otc c n) (hrec : ∀ c t, (pdats m h p c).recorded t = seen (F := F) n c)
    (hin : ∀ c, (scopedRest (pin (pcfgs (F := F)) adm p).spec c) ⊢ (pdats m h p c).Φ 0)
    (hout : ∀ c, (pdats m h p c).Φ (Fin.last (pin (pcfgs (F := F)) adm p).N) ⊢ (scopedRest (pin (pcfgs (F := F)) adm p).spec c))
    (hW : ∀ c w, (pdats m h p c).arrAt w 0 = W c (Proc.devRef .tc (arrRef (pin (pcfgs (F := F)) adm p).spec w)))
    (hW' : ∀ c w, (pdats m h p c).arrAt w (pin (pcfgs (F := F)) adm p).N = W' c (Proc.devRef .tc (arrRef (pin (pcfgs (F := F)) adm p).spec w))) :
    RegionSeg (pcfgs (F := F)) adm (pdats m h) none (defs₀ (F := F)) 𝒱₀ (K (F := F)).L (K (F := F)).lev p where
  win := kit.to₀.win
  block_pos := kit.block_pos
  stage_whole := kit.stage_whole
  K := PEmpty
  osem k := k.elim
  ho := Pipeline.OwnSemFacts.none _
  hbody := hbody
  hwaits c := Pipeline.cellsWaits_intro (pin (pcfgs (F := F)) adm) (pdats m h) none p c fun w s t => by
    rw [howed c t]; exact (K (F := F)).mayWait_none _ (Otc_none c n)
  pre c := iprop(held (c.tc : Thread nD τ) (arrRefs (pcfgs (F := F) p).spec) (W c) ∗ owing n c)
  post c := iprop(held (c.tc : Thread nD τ) (arrRefs (pcfgs (F := F) p).spec) (W' c) ∗ owing n c)
  X _ := iprop(emp)
  Y _ := iprop(emp)
  Z _ := iprop(emp)
  hentry c := by
    rw [Pipeline.ownSems0_none, prefHeld_of_none _ hK,
      ← Pipeline.arrays_held (pcfgs (F := F)) adm (pdats m h) p kit c (hshare c) ((pdats m h p c).arrAt · 0) (W c) (hW c)]
    iintro ⟨⟨Ha, HO⟩, -, -⟩
    imodintro
    isplitl [Ha]; · iexact Ha
    isplitr; · iempintro
    isplitl [HO]
    · unfold Dat.owesAt owesWithin Dat.bound owing
      rw [howed c 0, hrec c]
      icases HO with ⟨%Wd, %hWd, HO⟩; iexists Wd; isplitr
      · ipureintro; exact fun q hq => Or.inl (hWd q hq)
      iexact HO
    isplitr <;> iempintro
  hin c := (show _ ⊢ iprop(scopedRest (pin (pcfgs (F := F)) adm p).spec c) from by
    iintro ⟨-, -, Hr⟩; iexact Hr).trans (hin c)
  hout c := (hout c).trans (by
    rw [Pipeline.ownSems0_none]; iintro Hr
    isplitr; · iempintro
    isplitr; · iempintro
    iexact Hr)
  hexit c := by
    rw [← Pipeline.arrays_held (pcfgs (F := F)) adm (pdats m h) p kit c (hshare c) ((pdats m h p c).arrAt · (pin (pcfgs (F := F)) adm p).N) (W' c) (hW' c)]
    iintro ⟨Ha, HO, -, -⟩
    imodintro
    isplitl [Ha]; · iexact Ha
    unfold Dat.owesAt owesWithin Dat.bound owing
    rw [howed c (Fin.last _), hrec c]
    icases HO with ⟨%Wd, %hWd, HO⟩; iexists Wd; isplitr
    · ipureintro
      intro q hq
      rcases hWd hq with hq' | ⟨w, s, rfl⟩
      · exact hq'
      · exact Nat.zero_le _
    iexact HO

/-! The projection, field by field. -/

theorem body0 (c : Dev nD) : Pipeline.BodyObligationLoose (dat0 m c) (defs₀ (F := F)) 𝒱₀ none Set.univ :=
  (Proj.body_obligation (fun c b => U1 m c (dv b)) (fun c => (K (F := F)).Otc c 0) (seen (F := F) 0) c).loose
theorem share0 (c : Dev nD) (w : Fin cfg0.W) : (dat0 m c).share w = fullShare := (dat0 m c).share_full (fun _ => rfl) w
theorem entry0 (c : Dev nD) (w : Fin cfg0.W) : (dat0 m c).arrAt w 0 = U1 m c (Proc.devRef .tc (arrRef cfg0.spec w)) := rfl
theorem exit0 (c : Dev nD) (w : Fin cfg0.W) : (dat0 m c).arrAt w cfg0.N = U2 m c (Proc.devRef .tc (arrRef cfg0.spec w)) := by
  match w with
  | ⟨0, _⟩ => exact ((dat0 m c).arrAt_in 0 rfl _).trans (U2_ne m c (show dv main_arg0 ≠ dv main_v1 by decide)).symm
  | ⟨1, _⟩ => exact ((dat0 m c).arrAt_in 1 rfl _).trans (U2_ne m c (show dv main_v0 ≠ dv main_v1 by decide)).symm
  | ⟨2, _⟩ => exact (Proj.final (fun c b => U1 m c (dv b)) (fun c => (K (F := F)).Otc c 0) (seen (F := F) 0) c).trans (U2_self m c).symm

theorem start0 (c : Dev nD) : (scopedRest cfg0.spec c) ⊢ (dat0 m c).Φ 0 := BI.Entails.refl _
theorem stop0 (c : Dev nD) : (dat0 m c).Φ (Fin.last cfg0.N) ⊢ (scopedRest cfg0.spec c) := BI.Entails.refl _

/-- The projection. -/
def seg0 : RegionSeg (pcfgs (F := F)) adm (pdats m h) none (defs₀ (F := F)) 𝒱₀ (K (F := F)).L (K (F := F)).lev 0 :=
  seg m h 0 0 (launch0.toP) rfl (fun c => U1 m c) (fun c => U2 m c) (body0 m) (share0 m) (fun _ _ => rfl) (fun _ _ => rfl)
    (start0 m) (stop0 m) (entry0 m) (exit0 m)

/-! The pooling, field by field. -/

theorem body1 (c : Dev nD) : Pipeline.BodyObligationLoose (dat1 m h c) (defs₀ (F := F)) 𝒱₀ none Set.univ :=
  (Pool.body_obligation (fun c b => U11 m c h (dv b)) (fun c => (K (F := F)).Otc c 1) (seen (F := F) 1) c).loose
theorem share1 (c : Dev nD) (w : Fin cfg2.W) : (dat1 m h c).share w = fullShare := (dat1 m h c).share_full (fun _ => rfl) w
theorem entry1 (c : Dev nD) (w : Fin cfg2.W) : (dat1 m h c).arrAt w 0 = U11 m c h (Proc.devRef .tc (arrRef cfg2.spec w)) := rfl
theorem exit1 (c : Dev nD) (w : Fin cfg2.W) : (dat1 m h c).arrAt w cfg2.N = U12 m c h (Proc.devRef .tc (arrRef cfg2.spec w)) := by
  match w with
  | ⟨0, _⟩ => exact ((dat1 m h c).arrAt_in 0 rfl _).trans (U12_ne m c h (show dv main_arg0 ≠ dv main_v11 by decide)).symm
  | ⟨1, _⟩ => exact ((dat1 m h c).arrAt_in 1 rfl _).trans (U12_ne m c h (show dv main_v7 ≠ dv main_v11 by decide)).symm
  | ⟨2, _⟩ => exact ((dat1 m h c).arrAt_in 2 rfl _).trans (U12_ne m c h (show dv main_v8 ≠ dv main_v11 by decide)).symm
  | ⟨3, _⟩ => exact ((dat1 m h c).arrAt_in 3 rfl _).trans (U12_ne m c h (show dv main_v9 ≠ dv main_v11 by decide)).symm
  | ⟨4, _⟩ => exact ((dat1 m h c).arrAt_in 4 rfl _).trans (U12_ne m c h (show dv main_v10 ≠ dv main_v11 by decide)).symm
  | ⟨5, _⟩ => exact (Pool.final (fun c b => U11 m c h (dv b)) (fun c => (K (F := F)).Otc c 1) (seen (F := F) 1) c).trans (U12_res m c h).symm

/-- The pooling. -/
def seg1 : RegionSeg (pcfgs (F := F)) adm (pdats m h) none (defs₀ (F := F)) 𝒱₀ (K (F := F)).L (K (F := F)).lev 1 :=
  seg m h 1 1 (launch2.toP) rfl (fun c => U11 m c h) (fun c => U12 m c h) (body1 m h) (share1 m h) (fun _ _ => rfl) (fun _ _ => rfl)
    (Pool.hin (fun c b => U11 m c h (dv b)) (fun c => (K (F := F)).Otc c 1) (seen (F := F) 1))
    (Pool.hout (fun c b => U11 m c h (dv b)) (fun c => (K (F := F)).Otc c 1) (seen (F := F) 1)) (entry1 m h) (exit1 m h)

end Cert.Proof.KI

end
-- ==== Proof.KI.Launch.lean ====
/-
  The program's run: the SparseCore call's payloads and obligations, the ghost state of the launch, @main on the
  TensorCore, and the run of all the threads — the result at `rv`, the arguments unchanged, every semaphore at zero.
-/
module

public import Idealize.ShloMosaic.Lib.Pipeline.FrameTail
public import proofs.«01_k».proof.Proof.KI.Split
public import proofs.«01_k».proof.Proof.KI.Regions

@[expose] public section

noncomputable section

namespace Cert.Proof.KI

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_sub_split held_congr wp_hlo_within)
open Idealize.ShloMosaic.Tactic
open Idealize.ShloMosaic.Pipeline (pin arrRefs arrRef cellsGhost toksInit ucRefs RegionSeg)

variable {F : FTy → Type} [FloatOps F]

variable (m : (ℓ : Loc nD τ sig) → Buf (Elt F) ℓ) (ρ : Dev nD → PrngReg) (h : InRange m)

/-! ## The SparseCore call -/

/-- What tile `(c, i)` is handed: its shares of the arrays it reads, its rows of the partial sums as they are. -/
def goAt (d : Dev nD) (c : Fin 2) (i : Fin 16) : sProp (MM F) :=
  iprop(reads d (coordsV c i) (sh c i) (yv m d) (sv m d) (tv m d) ∗ writes d (coordsV c i) (U7 m d (dv main_v7)))
/-- What it hands back: the shares, the rows at the partial sums. -/
def tdAt (d : Dev nD) (c : Fin 2) (i : Fin 16) : sProp (MM F) :=
  iprop(reads d (coordsV c i) (sh c i) (yv m d) (sv m d) (tv m d) ∗ writes d (coordsV c i) (pv m d h))

instance goAt_storable (d : Dev nD) (c : Fin 2) (i : Fin 16) : BI.Storable (upEmb : UEmb _ (MM F)) (goAt m d c i) := by
  unfold goAt reads writes; infer_instance
instance tdAt_storable (d : Dev nD) (c : Fin 2) (i : Fin 16) : BI.Storable (upEmb : UEmb _ (MM F)) (tdAt m h d c i) := by
  unfold tdAt reads writes; infer_instance

/-- The call's payloads. -/
def P : (K (F := F)).Pay (nD := nD) (Val := Elt F) (Name := ℕ) (U := UU) where
  st := fun q d c => match q with | 0 => bigSep Finset.univ fun i : Fin 16 => goAt m d c i
  dn := fun q d c => match q with | 0 => bigSep Finset.univ fun i : Fin 16 => tdAt m h d c i
  go := fun q d c i => match q with | 0 => goAt m d c i
  td := fun q d c i => match q with | 0 => tdAt m h d c i
  x := fun _ _ => iprop(emp)

instance P_storable : (P (F := F) m h).IsStorable where
  st q d c := match q with
    | 0 => (inferInstance : BI.Storable (upEmb : UEmb _ (MM F)) (bigSep Finset.univ fun i : Fin 16 => goAt m d c i))
  dn q d c := match q with
    | 0 => (inferInstance : BI.Storable (upEmb : UEmb _ (MM F)) (bigSep Finset.univ fun i : Fin 16 => tdAt m h d c i))
  go q d c i := match q with
    | 0 => (inferInstance : BI.Storable (upEmb : UEmb _ (MM F)) (goAt m d c i))
  td q d c i := match q with
    | 0 => (inferInstance : BI.Storable (upEmb : UEmb _ (MM F)) (tdAt m h d c i))

theorem defs₀_vector (c : Fin τ.nSC) (s : Fin τ.nSub) :
    defs₀ (F := F) (.scVector c s) 1 ()
      = SparseCore.onTile hcore1 hsub1 (fun c s => cc1__edge_body (coordsV c s) yM (Memref.isWhole_whole _) sM (Memref.isWhole_whole _)
          dM (Memref.isWhole_whole _) oM (Memref.isWhole_whole _) yT (Memref.isWhole_whole _) sT (Memref.isWhole_whole _)
          dT (Memref.isWhole_whole _) aT (Memref.isWhole_whole _)
          cc1_scoped0 cc1_scoped1 cc1_scoped2 cc1_scoped3 cc1_scoped4 cc1_scoped5 cc1_scoped6 cc1_scoped7) ⟨⟩ c s := rfl

omit [FloatOps F] in
theorem late {thr : Thread nD τ} {A B C : sProp (MM F)} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W₁, %hw, HO⟩
  isplitl [HA]; · iexact HA
  isplitl [HB]; · iexact HB
  isplitl [HC]; · iexact HC
  iexists W₁; isplitr
  · ipureintro
    intro p hp
    rcases hw p hp with h1 | h2
    · exact .inl h1
    · exact .inr (.inl h2)
  · iexact HO

set_option maxRecDepth 1024 in
theorem tileObl : (K (F := F)).TileObl (D (F := F)) 𝒱 (P m h) v₀ 0 := by
  intro d c i O W hO _ _
  simp only [show (P m h).ox = fun _ _ => 0 from rfl, add_zero]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector]; simp only [SparseCore.onTile, hc, and_self, ↓reduceDIte]
  exact (tile_body d (coordsV ⟨_, hc.1⟩ ⟨_, hc.2⟩) (sh c i) (yv m d) (sv m d) (tv m d) (sv_lt d h) (tv_lt d h) facts
    (U7 m d (dv main_v7)) O W hO).trans (wp_mono frame _ _ fun _ => late)

/-- A SparseCore's payload is its tiles'. -/
theorem vecSplit : (K (F := F)).VecSplit' (P m h) 0 := by
  intro d c
  show (bigSep Finset.univ fun i : Fin 16 => goAt m d c i)
    ⊢ |={Set.univ}=> iprop((bigSep Finset.univ fun i : Fin 16 => goAt m d c i)
      ∗ ((bigSep Finset.univ fun i : Fin 16 => tdAt m h d c i) -∗ (bigSep Finset.univ fun i : Fin 16 => tdAt m h d c i)))
  iintro H; imodintro
  isplitl [H]; · iexact H
  iintro H; iexact H

/-! ## The launch's ghost state -/

theorem phinj : Function.Injective (Pipeline.cellOf (nD := nD) (τ := τ) (pin (pcfgs (F := F)) adm)) := cellOf_inj

def u₀ : UU := (initOf (K (F := F)).hsCells (K (F := F)).hsToks,
  (initOf (Pipeline.cells (pin (pcfgs (F := F)) adm) phinj) (Pipeline.launchToks (pin (pcfgs (F := F)) adm) phinj), 1))

omit [FloatOps F] in
theorem ownU_parts (a : UH) (b : UP) : (ownU ((a, (b, 1)) : UU) : sProp (MM F)) ⊢ iprop(BI.own (EH a) ∗ BI.own (EP b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op (b, (1 : Counters)))))

/-- What @main holds for the two pipelines. -/
def G (d : Dev nD) : sProp (MM F) :=
  iprop((bigSep Finset.univ fun p : Fin 2 => cellsGhost (pin (pcfgs (F := F)) adm) EP p d)
    ∗ bigSep Finset.univ fun p : Fin 2 => toksInit (pin (pcfgs (F := F)) adm) EP p d)

omit [FloatOps F] in
theorem bigSep_empty' {I : Type} (s : Finset I) : (bigSep s fun _ => iprop(emp)) = (iprop(emp) : sProp (MM F)) := bigSep_emp_const s

theorem hu₀ : (ownU (u₀ (F := F)) : sProp (MM F))
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m h).x q thr) := by
  unfold u₀
  iintro Hu
  ihave H := (ownU_parts _ _) $$ Hu
  icases H with ⟨HH, HP⟩
  imod (Pipeline.fund_ghost (pin (pcfgs (F := F)) adm) EP phinj) $$ HP with ⟨Hg, Ht⟩
  imodintro
  isplitl [HH]; · iexact HH
  isplitl [Hg Ht]
  · unfold G
    rw [bigSep_sep']
    isplitl [Hg] <;> iassumption
  unfold P; dsimp only
  rw [show (bigSep Finset.univ fun _ : Thread nD τ => bigSep Finset.univ fun _ : Fin 1 => (iprop(emp) : sProp (MM F))) = iprop(emp) from by
    rw [bigSep_congr fun _ _ => bigSep_empty' _, bigSep_empty']]
  iempintro

/-! ## The steps of @main -/

/-- The arrays of @main. -/
abbrev UC : Finset (DevRef τ sig) := ucRefs τ sig

omit [FloatOps F] in
theorem mem_UC (b : Ref sig .tc) (hb : b.isScoped = false) : dv b ∈ UC := Pipeline.devRef_mem_ucRefs hb

/-- A host operation. -/
theorem host_step (d : Dev nD) (op : HloOp τ sig (Elt F)) (hop : op.bufs ⊆ StableHlo.tcRefs τ sig) (hf : op.fresh = ∅) (U : Valuation τ sig (Elt F))
    (hp : (SparseCore.T d : Thread nD τ).2.kind.runsHlo = true) (Φ : PUnit → sProp (MM F)) :
    iprop(boundary (SparseCore.T d) ∗ held (SparseCore.T d) UC U
        ∗ (iprop(boundary (SparseCore.T d) ∗ held (SparseCore.T d) UC (op.result U)) -∗ Φ ⟨⟩))
      ⊢ wp frame (wpE ((K (F := F)).defs (D (F := F))) 𝒱 (SparseCore.T d) none) Set.univ (hlo hp op (fun _ => .ret ⟨⟩)) Φ := by
  iintro ⟨Hb, Hh, Hk⟩
  iapply (wp_hlo_within 𝒱 (SparseCore.T d) none Set.univ (op := op) (S := UC) (Pipeline.sub_ucRefs op hop) (V := U) hf) $$ [Hb Hh]
  · isplitl [Hb] <;> iassumption
  iintro ⟨Hb, Hh⟩
  rw [wp_ret]; imodintro
  iapply Hk
  isplitl [Hb] <;> iassumption

/-- A pipeline of @main. -/
theorem region_step {p : Fin 2} (R : RegionSeg (pcfgs (F := F)) adm (pdats m h) none (defs₀ (F := F)) 𝒱₀ (K (F := F)).L (K (F := F)).lev p)
    (d : Dev nD) [∀ e, Nonempty (Elt F e)] (Φ : PUnit → sProp (MM F)) :
    iprop((iprop(boundary (SparseCore.T d) ∗ R.post d) -∗ Φ ⟨⟩)
        ∗ boundary (SparseCore.T d) ∗ R.pre d ∗ levAts (K (F := F)).L (K (F := F)).lev
        ∗ cellsGhost (pin (pcfgs (F := F)) adm) EP p d ∗ toksInit (pin (pcfgs (F := F)) adm) EP p d)
      ⊢ wp frame (wpE ((K (F := F)).defs (D (F := F))) 𝒱 (SparseCore.T d) none) Set.univ
          (Prog.lift (.customCall (SparseCore.inner (Pipeline.entry p)) ())) Φ := by
  refine BI.Entails.trans ?_ ((K (F := F)).wp_liftProg (D (F := F)) 𝒱 (SparseCore.T d) Set.univ none
    (.op (.customCall (Pipeline.entry p) ()) .ret) Φ)
  refine BI.Entails.trans ?_ (RegionSeg.wp (pcfgs (F := F)) adm (pdats m h) none phinj EP (defs₀ (F := F)) 𝒱₀ (K (F := F)).L (K (F := F)).lev
    R d none (fun _ hu => nomatch hu) .ret Φ)
  show (_ : sProp (MM F)) ⊢ _
  iintro ⟨Hk, Hrest⟩
  isplitl [Hk]
  · iintro H
    rw [wp_ret]; imodintro
    iapply Hk; iexact H
  · iexact Hrest

/-- The pipelines' arrays are arrays of @main. -/
theorem sub0 : arrRefs (τ := τ) (pcfgs (F := F) 0).spec ⊆ UC := Pipeline.arrRefs_sub_ucRefs _ (show ∀ w : Fin 3, (arrRef cfg0.spec w).isScoped = false by decide)
theorem sub1 : arrRefs (τ := τ) (pcfgs (F := F) 1).spec ⊆ UC := Pipeline.arrRefs_sub_ucRefs _ (show ∀ w : Fin 6, (arrRef cfg2.spec w).isScoped = false by decide)

theorem v1_mem : dv main_v1 ∈ arrRefs (τ := τ) (pcfgs (F := F) 0).spec :=
  Finset.mem_map_of_mem _ (Finset.mem_image.mpr ⟨(2 : Fin 3), Finset.mem_univ _, rfl⟩)
theorem v11_mem : dv main_v11 ∈ arrRefs (τ := τ) (pcfgs (F := F) 1).spec :=
  Finset.mem_map_of_mem _ (Finset.mem_image.mpr ⟨(5 : Fin 6), Finset.mem_univ _, rfl⟩)

include h in
/-- The projection. -/
theorem proj_step (d : Dev nD) [∀ e, Nonempty (Elt F e)] (Φ : PUnit → sProp (MM F)) :
    iprop(boundary (SparseCore.T d) ∗ held (SparseCore.T d) UC (U1 m d) ∗ owing 0 d ∗ levAts (K (F := F)).L (K (F := F)).lev
        ∗ (cellsGhost (pin (pcfgs (F := F)) adm) EP 0 d ∗ toksInit (pin (pcfgs (F := F)) adm) EP 0 d)
        ∗ (iprop(boundary (SparseCore.T d) ∗ held (SparseCore.T d) UC (U2 m d) ∗ owing 0 d) -∗ Φ ⟨⟩))
      ⊢ wp frame (wpE ((K (F := F)).defs (D (F := F))) 𝒱 (SparseCore.T d) none) Set.univ
          (Prog.lift (.customCall (SparseCore.inner (Pipeline.entry 0)) ())) Φ := by
  rw [held_sub_split (SparseCore.T d) (sub0 (F := F)) (U1 m d), held_sub_split (SparseCore.T d) (sub0 (F := F)) (U2 m d),
    held_congr (SparseCore.T d) (S := UC \ arrRefs (τ := τ) (pcfgs (F := F) 0).spec) (V := U2 m d) (V' := U1 m d) (fun b hb => U2_ne m d (by
      rintro rfl; exact (Finset.mem_sdiff.mp hb).2 v1_mem))]
  iintro ⟨Hb, ⟨Ha, Hr⟩, HO, #Hl, Hg, Hk⟩
  iapply (region_step m h (seg0 m h) d Φ)
  isplitl [Hk Hr]
  · iintro ⟨Hb, Hpost⟩
    ihave Hpost := (Entails.of_eq (show (seg0 m h).post d = iprop(held (SparseCore.T d) (arrRefs (pcfgs (F := F) 0).spec) (U2 m d) ∗ owing 0 d) from rfl)) $$ Hpost
    icases Hpost with ⟨Ha, HO⟩
    iapply Hk
    isplitl [Hb]; · iexact Hb
    isplitl [Ha Hr]
    · isplitl [Ha] <;> iassumption
    · iexact HO
  isplitl [Hb]; · iexact Hb
  isplitl [Ha HO]
  · iapply (Entails.of_eq (show (seg0 m h).pre d = iprop(held (SparseCore.T d) (arrRefs (pcfgs (F := F) 0).spec) (U1 m d) ∗ owing 0 d) from rfl).symm)
    isplitl [Ha] <;> iassumption
  isplitr; · iexact Hl
  iexact Hg

/-- The pooling. -/
theorem pool_step (d : Dev nD) [∀ e, Nonempty (Elt F e)] (Φ : PUnit → sProp (MM F)) :
    iprop(boundary (SparseCore.T d) ∗ held (SparseCore.T d) UC (U11 m d h) ∗ owing 1 d ∗ levAts (K (F := F)).L (K (F := F)).lev
        ∗ (cellsGhost (pin (pcfgs (F := F)) adm) EP 1 d ∗ toksInit (pin (pcfgs (F := F)) adm) EP 1 d)
        ∗ (iprop(boundary (SparseCore.T d) ∗ held (SparseCore.T d) UC (U12 m d h) ∗ owing 1 d) -∗ Φ ⟨⟩))
      ⊢ wp frame (wpE ((K (F := F)).defs (D (F := F))) 𝒱 (SparseCore.T d) none) Set.univ
          (Prog.lift (.customCall (SparseCore.inner (Pipeline.entry 1)) ())) Φ := by
  rw [held_sub_split (SparseCore.T d) (sub1 (F := F)) (U11 m d h), held_sub_split (SparseCore.T d) (sub1 (F := F)) (U12 m d h),
    held_congr (SparseCore.T d) (S := UC \ arrRefs (τ := τ) (pcfgs (F := F) 1).spec) (V := U12 m d h) (V' := U11 m d h) (fun b hb => U12_ne m d h (by
      rintro rfl; exact (Finset.mem_sdiff.mp hb).2 v11_mem))]
  iintro ⟨Hb, ⟨Ha, Hr⟩, HO, #Hl, Hg, Hk⟩
  iapply (region_step m h (seg1 m h) d Φ)
  isplitl [Hk Hr]
  · iintro ⟨Hb, Hpost⟩
    ihave Hpost := (Entails.of_eq (show (seg1 m h).post d = iprop(held (SparseCore.T d) (arrRefs (pcfgs (F := F) 1).spec) (U12 m d h) ∗ owing 1 d) from rfl)) $$ Hpost
    icases Hpost with ⟨Ha, HO⟩
    iapply Hk
    isplitl [Hb]; · iexact Hb
    isplitl [Ha Hr]
    · isplitl [Ha] <;> iassumption
    · iexact HO
  isplitl [Hb]; · iexact Hb
  isplitl [Ha HO]
  · iapply (Entails.of_eq (show (seg1 m h).pre d = iprop(held (SparseCore.T d) (arrRefs (pcfgs (F := F) 1).spec) (U11 m d h) ∗ owing 1 d) from rfl).symm)
    isplitl [Ha] <;> iassumption
  isplitr; · iexact Hl
  iexact Hg

/-- The call's four arrays. -/
abbrev S4 : Finset (DevRef τ sig) := {dv main_v2, dv main_v4, dv main_v6, dv main_v7}

omit [FloatOps F] in
theorem sub4 : S4 ⊆ UC := by
  intro b hb
  simp only [S4, Finset.mem_insert, Finset.mem_singleton] at hb
  rcases hb with rfl | rfl | rfl | rfl <;> exact mem_UC _ rfl

theorem held_S4 (d : Dev nD) (U : Valuation τ sig (Elt F)) :
    (held (SparseCore.T d) S4 U : sProp (MM F))
      = iprop((yLoc d ↦{fullShare} U (dv main_v2)) ∗ (sLoc d ↦{fullShare} U (dv main_v4)) ∗ (dLoc d ↦{fullShare} U (dv main_v6)) ∗ (oLoc d ↦{fullShare} U (dv main_v7))) := by
  unfold held S4
  rw [SparseCore.bigSep_insert' (by decide), SparseCore.bigSep_insert' (by decide), SparseCore.bigSep_insert' (by decide), bigSep_singleton]

theorem U8_ne (d : Dev nD) {b : DevRef τ sig} (hb : b ≠ dv main_v7) : U8 m d h b = U7 m d b := Function.update_of_ne hb _ _

theorem st_eq (d : Dev nD) : (held (SparseCore.T d) S4 (U7 m d) : sProp (MM F)) = bigSep Finset.univ fun c : Fin ((K (F := F)).nCore 0) => (P m h).st 0 d c := by
  rw [held_S4]
  exact deal d (yv m d) (sv m d) (tv m d) (U7 m d (dv main_v7))
theorem dn_eq (d : Dev nD) : (held (SparseCore.T d) S4 (U8 m d h) : sProp (MM F)) = bigSep Finset.univ fun c : Fin ((K (F := F)).nCore 0) => (P m h).dn 0 d c := by
  rw [held_S4, U8_ne m h d (show dv main_v2 ≠ dv main_v7 by decide), U8_ne m h d (show dv main_v4 ≠ dv main_v7 by decide),
    U8_ne m h d (show dv main_v6 ≠ dv main_v7 by decide), show U8 m d h (dv main_v7) = pv m d h from Function.update_self _ _ _]
  exact deal d (yv m d) (sv m d) (tv m d) (pv m d h)

/-- The SparseCore call. -/
theorem call_step (κ : GSem nD τ sig → ℕ) (d : Dev nD) (Φ : PUnit → sProp (MM F)) :
    iprop((K (F := F)).ctx EH (P m h) κ ∗ (K (F := F)).tcSt EH d 0 ∗ held (SparseCore.T d) UC (U7 m d)
        ∗ (iprop((K (F := F)).tcSt EH d 1 ∗ held (SparseCore.T d) UC (U8 m d h)) -∗ Φ ⟨⟩))
      ⊢ wp frame (wpE ((K (F := F)).defs (D (F := F))) 𝒱 (SparseCore.T d) none) Set.univ ((K (F := F)).run d 0) Φ := by
  rw [held_sub_split (SparseCore.T d) sub4 (U7 m d), held_sub_split (SparseCore.T d) sub4 (U8 m d h), st_eq m h, dn_eq m h,
    held_congr (SparseCore.T d) (S := UC \ S4) (V := U8 m d h) (V' := U7 m d) (fun b hb => U8_ne m h d (by
      rintro rfl; exact (Finset.mem_sdiff.mp hb).2 (Finset.mem_insert_of_mem (Finset.mem_insert_of_mem (Finset.mem_insert_of_mem (Finset.mem_singleton_self _))))))]
  iintro ⟨#Hctx, Hst, ⟨Ha, Hr⟩, Hk⟩
  iapply ((K (F := F)).wp_run (D (F := F)) 𝒱 (EH := EH) (P := P m h) κ d 0)
  isplitr; · iexact Hctx
  isplitl [Hst]; · iexact Hst
  isplitl [Ha]; · iexact Ha
  iintro ⟨Hst, Ha⟩
  iapply Hk
  isplitl [Hst]; · iexact Hst
  isplitl [Ha] <;> iassumption

/-! ## @main -/

/-- What the TensorCore holds of the handshakes beside what it owes. -/
def rest (d : Dev nD) (n : ℕ) : sProp (MM F) :=
  iprop(atPos EH ((K (F := F)).doneCell d) n ∅ 0 ∗ reached EH ((K (F := F)).doneCell d) n
    ∗ (bigSep Finset.univ fun c : Fin τ.nSC => reached EH ((K (F := F)).startCell d c) ((K (F := F)).sRank c n))
    ∗ bigSep (SparseCore.Cfg.callsFrom n) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some (zb.last q)) 1)))

theorem tcSt_owing (d : Dev nD) (n : ℕ) : ((K (F := F)).tcSt EH d n : sProp (MM F)) = iprop(owing n d ∗ rest d n) := rfl

theorem unscoped_UC (d : Dev nD) : (unscopedBufs d (fun b => m ((SparseCore.T d).loc b)) : sProp (MM F)) = held (SparseCore.T d) UC (U0 m d) :=
  Pipeline.unscopedBufs_held d (U0 m d)

abbrev FIN (d : Dev nD) : sProp (MM F) := held (SparseCore.T d) UC (U12 m d h)

theorem G_eq (d : Dev nD) : (G (F := F) d) ⊢ iprop((cellsGhost (pin (pcfgs (F := F)) adm) EP 0 d ∗ toksInit (pin (pcfgs (F := F)) adm) EP 0 d)
    ∗ (cellsGhost (pin (pcfgs (F := F)) adm) EP 1 d ∗ toksInit (pin (pcfgs (F := F)) adm) EP 1 d)) := by
  unfold G
  rw [show (Finset.univ : Finset (Fin 2)) = {0, 1} by decide, SparseCore.bigSep_insert' (by decide), bigSep_singleton,
    SparseCore.bigSep_insert' (by decide), bigSep_singleton]
  iintro ⟨⟨Ha, Hb⟩, Hc, Hd⟩
  isplitl [Ha Hc]
  · isplitl [Ha] <;> iassumption
  · isplitl [Hb] <;> iassumption

theorem hmain [∀ e, Nonempty (Elt F e)] (κ : GSem nD τ sig → ℕ) (d : Dev nD) :
    iprop((K (F := F)).ctx EH (P m h) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m h d ∗ (K (F := F)).tcEnd d) := by
  unfold SparseCore.Cfg.tcRes SparseCore.Cfg.tcEnd
  rw [unscoped_UC]
  simp only [main, wp_bind, wp_pure]
  iintro ⟨#Hctx, Hst, ⟨Hb, Hh, Hts, -⟩, HG⟩
  ihave #Hl := (SparseCore.Cfg.ctx_levAts (K := K (F := F)) κ) $$ Hctx
  ihave HG := (G_eq (F := F) d) $$ HG
  icases HG with ⟨Hg0, Hg1⟩
  iapply (host_step d (op0 (F := F)) (StableHlo.reshape_bufs_sub _ _ _ _ _ _) rfl (U0 m d) rfl)
  isplitl [Hb]; · iexact Hb
  isplitl [Hh]; · iexact Hh
  iintro ⟨Hb, Hh⟩
  ihave Hst := (Entails.of_eq (tcSt_owing (F := F) d 0)) $$ Hst
  icases Hst with ⟨HO, Hst⟩
  iapply (proj_step m h d)
  isplitl [Hb]; · iexact Hb
  isplitl [Hh]; · iexact Hh
  isplitl [HO]; · iexact HO
  isplitr; · iexact Hl
  isplitl [Hg0]; · iexact Hg0
  iintro ⟨Hb, Hh, HO⟩
  iapply (host_step d (op2 (F := F)) (StableHlo.reshape_bufs_sub _ _ _ _ _ _) rfl (U2 m d) rfl)
  isplitl [Hb]; · iexact Hb
  isplitl [Hh]; · iexact Hh
  iintro ⟨Hb, Hh⟩
  iapply (host_step d (op3 (F := F)) (StableHlo.unary_bufs_sub _ _ _ _ _) rfl (U3 m d) rfl)
  isplitl [Hb]; · iexact Hb
  isplitl [Hh]; · iexact Hh
  iintro ⟨Hb, Hh⟩
  iapply (host_step d (op4 (F := F)) (StableHlo.reshape_bufs_sub _ _ _ _ _ _) rfl (U4 m d) rfl)
  isplitl [Hb]; · iexact Hb
  isplitl [Hh]; · iexact Hh
  iintro ⟨Hb, Hh⟩
  iapply (host_step d (op5 (F := F)) (StableHlo.unary_bufs_sub _ _ _ _ _) rfl (U5 m d) rfl)
  isplitl [Hb]; · iexact Hb
  isplitl [Hh]; · iexact Hh
  iintro ⟨Hb, Hh⟩
  iapply (host_step d (op6 (F := F)) (StableHlo.reshape_bufs_sub _ _ _ _ _ _) rfl (U6 m d) rfl)
  isplitl [Hb]; · iexact Hb
  isplitl [Hh]; · iexact Hh
  iintro ⟨Hb, Hh⟩
  iapply (call_step m h κ d)
  isplitr; · iexact Hctx
  isplitl [HO Hst]
  · iapply (Entails.of_eq (tcSt_owing (F := F) d 0).symm)
    isplitl [HO] <;> iassumption
  isplitl [Hh]; · iexact Hh
  iintro ⟨Hst, Hh⟩
  iapply (host_step d (op8 (F := F)) (StableHlo.reshape_bufs_sub _ _ _ _ _ _) rfl (U8 m d h) rfl)
  isplitl [Hb]; · iexact Hb
  isplitl [Hh]; · iexact Hh
  iintro ⟨Hb, Hh⟩
  iapply (host_step d (op9 (F := F)) (StableHlo.reshape_bufs_sub _ _ _ _ _ _) rfl (U9 m d h) rfl)
  isplitl [Hb]; · iexact Hb
  isplitl [Hh]; · iexact Hh
  iintro ⟨Hb, Hh⟩
  iapply (host_step d (op10 (F := F)) (StableHlo.reshape_bufs_sub _ _ _ _ _ _) rfl (U10 m d h) rfl)
  isplitl [Hb]; · iexact Hb
  isplitl [Hh]; · iexact Hh
  iintro ⟨Hb, Hh⟩
  ihave Hst := (Entails.of_eq (tcSt_owing (F := F) d 1)) $$ Hst
  icases Hst with ⟨HO, Hst⟩
  iapply (pool_step m h d)
  isplitl [Hb]; · iexact Hb
  isplitl [Hh]; · iexact Hh
  isplitl [HO]; · iexact HO
  isplitr; · iexact Hl
  isplitl [Hg1]; · iexact Hg1
  iintro ⟨Hb, Hh, HO⟩
  imodintro
  isplitl [HO Hst]
  · iapply (Entails.of_eq (tcSt_owing (F := F) d 1).symm)
    isplitl [HO] <;> iassumption
  isplitl [Hh]; · iexact Hh
  isplitl [Hb] <;> iassumption

/-! ## The run -/

/-- The memory at the end: the result and the arguments. -/
def Out (d : Dev nD) (mem : (ℓ : Loc nD τ sig) → Buf (Elt F) ℓ) : Prop :=
  (mem ((SparseCore.T d).loc (main_v11 : Ref sig .tc)) : S64x128.Idx → Elt F .f32) = rv m d h
    ∧ mem ((SparseCore.T d).loc (main_arg0 : Ref sig .tc)) = m ((SparseCore.T d).loc (main_arg0 : Ref sig .tc))
    ∧ mem ((SparseCore.T d).loc (main_arg1 : Ref sig .tc)) = m ((SparseCore.T d).loc (main_arg1 : Ref sig .tc))
    ∧ mem ((SparseCore.T d).loc (main_arg2 : Ref sig .tc)) = m ((SparseCore.T d).loc (main_arg2 : Ref sig .tc))
    ∧ mem ((SparseCore.T d).loc (main_arg3 : Ref sig .tc)) = m ((SparseCore.T d).loc (main_arg3 : Ref sig .tc))
    ∧ mem ((SparseCore.T d).loc (main_arg4 : Ref sig .tc)) = m ((SparseCore.T d).loc (main_arg4 : Ref sig .tc))
    ∧ mem ((SparseCore.T d).loc (main_arg5 : Ref sig .tc)) = m ((SparseCore.T d).loc (main_arg5 : Ref sig .tc))

/-- An array held at the end is in the memory. -/
theorem held_SI (d : Dev nD) (s' : Phys nD τ sig (Elt F)) (U : Valuation τ sig (Elt F)) (b : Ref sig .tc) (hb : b.isScoped = false) :
    iprop(held (SparseCore.T d) UC U ∗ SI s') ⊢ (⌜s'.mem.mem ((SparseCore.T d).loc b) = U (dv b)⌝ : sProp (MM F)) := by
  have hs : (held (SparseCore.T d) UC U : sProp (MM F)) ⊢ ((SparseCore.T d).loc b ↦{fullShare} U (dv b)) := by
    unfold held
    exact BI.bigSep_elim (mem_UC b hb)
  iintro ⟨Hh, HSI⟩
  ihave Hx := hs $$ Hh
  ihave H := (SI_pointsTo_agree (st := s') (ℓ := (SparseCore.T d).loc b) (I := Finset.univ) (q := fullShare) (f := U (dv b))) $$ [HSI Hx]
  · isplitl [HSI] <;> iassumption
  icases H with %hx
  ipureintro; exact funext fun i => hx i (Finset.mem_univ i)

def fq (d : Dev nD) (s' : Phys nD τ sig (Elt F)) : Prop := Out m h d s'.mem.mem

theorem hfin (d : Dev nD) (s' : Phys nD τ sig (Elt F)) : iprop(FIN m h d ∗ SI s') ⊢ (⌜fq m h d s'⌝ : sProp (MM F)) := by
  intro a ha
  have k (b : Ref sig .tc) (hb : b.isScoped = false) := held_SI d s' (U12 m d h) b hb a ha
  exact ⟨(k main_v11 rfl).trans (U12_res m d h), (k main_arg0 rfl).trans (U12_arg0 m d h), (k main_arg1 rfl).trans (U12_arg1 m d h),
    (k main_arg2 rfl).trans (U12_arg2 m d h), (k main_arg3 rfl).trans (U12_arg3 m d h), (k main_arg4 rfl).trans (U12_arg4 m d h),
    (k main_arg5 rfl).trans (U12_arg5 m d h)⟩

def QC : PUnit × MemSt nD τ sig (Elt F) → Prop := fun r => (∀ d : Dev nD, Out m h d r.2.mem) ∧ r.2.sem = fun _ => 0

/-- The program's run: the result, the arguments unchanged, the semaphores at zero. -/
theorem run_main [∀ e, Nonempty (Elt F e)] : θ_run (Cert.KernelIdeal.defs (F := F)) (Cert.KernelIdeal.threads (F := F)) ⟨m, fun _ => 0, ρ⟩ (QC m h) :=
  SparseCore.Cfg.θ_run_sc_quiescent (K := K (F := F)) (D := D (F := F)) (𝒱 := 𝒱) (EH := EH) (P := P m h) (A := ∅) facts v₀
    (fun q hq => match q with | 0 => nomatch hq)
    (fun q _ => match q with | 0 => tileObl m h)
    (fun q _ => match q with | 0 => SparseCore.Cfg.VecSplit.of_plain (vecSplit m h))
    m ρ main (fun d => G d) (FIN m h) (u₀ (F := F)) (sep_elim_left.trans (hu₀ m h)) (hmain m ρ h) (fq m h) (hfin m h) (QC m h) (fun _ hf hz => ⟨hf, hz⟩)

end Cert.Proof.KI

end
-- ==== Proof.Math.Softmax.lean ====
/-
  The streaming softmax over the extended reals: a term's weight relative to a running maximum, how the weights move when
  the maximum grows, and the quotient of weighted sums as a weighted sum of quotients.
-/
module

public import Idealize.ShloMosaic.PureOps.Ideal

@[expose] public section

noncomputable section

namespace Cert.Proof.Math

open Idealize.ShloMosaic

/-- What is subtracted when the maximum is `M`: `M` itself, and nothing for an empty graph. -/
def base (M : EReal) : EReal := if M = ⊥ then 0 else M

/-- The weight of a node of value `x` in a graph of maximum `M`. -/
def ew (x M : EReal) : EReal := Ideal.exp (x - base M)

/-- The factor that takes weights relative to `m` to weights relative to `M`. -/
def al (m M : EReal) : EReal := Ideal.exp (if M = ⊥ then 0 else m - M)

theorem exp_zero' : Ideal.exp 0 = 1 := by
  rw [← EReal.coe_zero, Ideal.exp_coe, Real.exp_zero, EReal.coe_one]

theorem ew_bot (M : EReal) : ew ⊥ M = 0 := by
  unfold ew; rw [EReal.bot_sub]; rfl

theorem ew_top (x : EReal) : ew x ⊤ = 0 := by
  unfold ew base; rw [if_neg (by simp), sub_eq_add_neg, EReal.neg_top, EReal.add_bot]; rfl

theorem ew_coe (x M : ℝ) : ew x M = (Real.exp (x - M) : ℝ) := by
  unfold ew base; rw [if_neg (by simp), ← EReal.coe_sub, Ideal.exp_coe]

/-- A weight is a real number. -/
theorem ew_real {x M : EReal} (h : x ≤ M) : ∃ r : ℝ, 0 ≤ r ∧ ew x M = r := by
  induction M using EReal.rec with
  | bot => rw [le_bot_iff.1 h, ew_bot]; exact ⟨0, le_rfl, rfl⟩
  | top => rw [ew_top]; exact ⟨0, le_rfl, rfl⟩
  | coe M =>
    induction x using EReal.rec with
    | bot => rw [ew_bot]; exact ⟨0, le_rfl, rfl⟩
    | top => simp at h
    | coe x => exact ⟨_, (Real.exp_pos _).le, ew_coe x M⟩

theorem al_real {m M : EReal} (h : m ≤ M) : ∃ r : ℝ, al m M = r := by
  induction M using EReal.rec with
  | bot => unfold al; rw [if_pos rfl, exp_zero']; exact ⟨1, rfl⟩
  | top => unfold al; rw [if_neg (by simp), sub_eq_add_neg, EReal.neg_top, EReal.add_bot]; exact ⟨0, rfl⟩
  | coe M =>
    induction m using EReal.rec with
    | bot => unfold al; rw [if_neg (by simp), EReal.bot_sub]; exact ⟨0, rfl⟩
    | top => simp at h
    | coe m => unfold al; rw [if_neg (by simp), ← EReal.coe_sub, Ideal.exp_coe]; exact ⟨_, rfl⟩

/-- Rescaling moves a weight from one maximum to a larger one. -/
theorem ew_al {x m M : EReal} (h : x ≤ m) (h' : m ≤ M) : ew x m * al m M = ew x M := by
  induction M using EReal.rec with
  | bot =>
    obtain rfl := le_bot_iff.1 h'
    obtain rfl := le_bot_iff.1 h
    rw [ew_bot, zero_mul]
  | top => rw [ew_top]; unfold al; rw [if_neg (by simp), sub_eq_add_neg, EReal.neg_top, EReal.add_bot]; exact mul_zero _
  | coe M =>
    induction m using EReal.rec with
    | bot => obtain rfl := le_bot_iff.1 h; rw [ew_bot, ew_bot, zero_mul]
    | top => simp at h'
    | coe m =>
      induction x using EReal.rec with
      | bot => rw [ew_bot, ew_bot, zero_mul]
      | top => simp at h
      | coe x =>
        unfold al
        rw [if_neg (by simp), ← EReal.coe_sub, Ideal.exp_coe, ew_coe, ew_coe, ← EReal.coe_mul, ← Real.exp_add]
        congr 2; ring

variable {ι : Type}

/-- A finite sum of real numbers, as one real number. -/
theorem coe_sum' (S : Finset ι) (f : ι → ℝ) : (∑ i ∈ S, (f i : EReal)) = ((∑ i ∈ S, f i : ℝ) : EReal) := by
  classical
  induction S using Finset.induction_on with
  | empty => simp
  | insert a S ha ih => rw [Finset.sum_insert ha, Finset.sum_insert ha, ih, EReal.coe_add]

/-- A real factor moves into a sum of real numbers. -/
theorem sum_mul_real (S : Finset ι) (f : ι → EReal) (c : EReal) (hf : ∀ i ∈ S, ∃ r : ℝ, f i = r) (hc : ∃ r : ℝ, c = r) :
    (∑ i ∈ S, f i) * c = ∑ i ∈ S, f i * c := by
  classical
  obtain ⟨c, rfl⟩ := hc
  induction S using Finset.induction_on with
  | empty => simp
  | insert a S ha ih =>
    have hS : ∃ r : ℝ, ∑ i ∈ S, f i = r := by
      choose! g hg using hf
      exact ⟨∑ i ∈ S, g i, by rw [← coe_sum']; exact Finset.sum_congr rfl fun i hi => hg i (Finset.mem_insert_of_mem hi)⟩
    rw [Finset.sum_insert ha, Finset.sum_insert ha, ← ih fun i hi => hf i (Finset.mem_insert_of_mem hi)]
    obtain ⟨s, hs⟩ := hS
    obtain ⟨t, ht⟩ := hf a (Finset.mem_insert_self a S)
    rw [hs, ht]
    rw [← EReal.coe_add, ← EReal.coe_mul, ← EReal.coe_mul, ← EReal.coe_mul, ← EReal.coe_add, add_mul]

/-- The quotient of the weighted sum by the denominator is the sum of the values by their scores. `M` is the maximum of
    the graph's values; the reference subtracts it where it is finite, and nothing elsewhere. -/
theorem pool_final (S : Finset ι) (xc X : ι → EReal) (M ε : EReal) (hM : ∀ i ∈ S, xc i ≤ M) (hM' : M = ⊤ → ∃ i ∈ S, xc i = ⊤)
    (hX : ∀ i ∈ S, ∃ r : ℝ, X i = r) (hε : ∃ r : ℝ, 0 < r ∧ ε = r) :
    Ideal.div (∑ i ∈ S, ew (xc i) M * X i) ((∑ i ∈ S, ew (xc i) M) + ε)
      = ∑ i ∈ S, X i * Ideal.div (Ideal.exp (xc i - if max M (-M) < ⊤ then M else 0))
          ((∑ i ∈ S, Ideal.exp (xc i - if max M (-M) < ⊤ then M else 0)) + ε) := by
  classical
  obtain ⟨ε, hε, rfl⟩ := hε
  by_cases hT : M = ⊤
  · subst hT
    obtain ⟨i, hi, hxi⟩ := hM' rfl
    have e1 : ∀ i ∈ S, ew (xc i) ⊤ = 0 := fun i _ => ew_top _
    rw [Finset.sum_congr rfl fun i hi => by rw [e1 i hi, zero_mul], Finset.sum_const_zero, Finset.sum_congr rfl e1, Finset.sum_const_zero]
    have hne : (0 : EReal) + (ε : EReal) ≠ 0 := by rw [zero_add]; exact_mod_cast hε.ne'
    rw [Ideal.div, if_neg hne, zero_mul]
    have hnot : ¬ max (⊤ : EReal) (-⊤) < ⊤ := by simp
    rw [if_neg hnot]
    have hnn : ∀ i ∈ S, 0 ≤ Ideal.exp (xc i - 0) := fun i _ => by
      induction (xc i - 0) using EReal.rec with
      | bot => exact le_rfl
      | top => exact le_top
      | coe r => rw [Ideal.exp_coe]; exact_mod_cast (Real.exp_pos _).le
    have htop : (∑ i ∈ S, Ideal.exp (xc i - 0)) = ⊤ := by
      refine top_unique ?_
      calc (⊤ : EReal) = Ideal.exp (xc i - 0) := by rw [hxi, sub_zero]; rfl
        _ ≤ _ := Finset.single_le_sum hnn hi
    rw [htop, EReal.top_add_coe]
    symm
    refine Finset.sum_eq_zero fun j hj => ?_
    rw [Ideal.div, if_neg (by simp), EReal.inv_top, mul_zero, mul_zero]
  · have hb : (if max M (-M) < ⊤ then M else 0) = base M := by
      unfold base
      induction M using EReal.rec with
      | bot => rw [if_neg (by simp), if_pos rfl]
      | top => exact absurd rfl hT
      | coe M => rw [if_neg (by simp : (M : EReal) ≠ ⊥), if_pos (max_lt (EReal.coe_lt_top M) (by rw [← EReal.coe_neg]; exact EReal.coe_lt_top _))]
    rw [hb]
    show _ = ∑ i ∈ S, X i * Ideal.div (ew (xc i) M) ((∑ i ∈ S, ew (xc i) M) + ε)
    choose! w hw0 hw using fun i (hi : i ∈ S) => ew_real (hM i hi)
    choose! r hr using hX
    have hden : (∑ i ∈ S, ew (xc i) M) + (ε : EReal) = ((∑ i ∈ S, w i + ε : ℝ) : EReal) := by
      rw [Finset.sum_congr rfl hw, coe_sum', EReal.coe_add]
    have hpos : 0 < ∑ i ∈ S, w i + ε := add_pos_of_nonneg_of_pos (Finset.sum_nonneg hw0) hε
    have hnum : ∑ i ∈ S, ew (xc i) M * X i = ((∑ i ∈ S, w i * r i : ℝ) : EReal) := by
      rw [← coe_sum']
      exact Finset.sum_congr rfl fun i hi => by rw [hw i hi, hr i hi, EReal.coe_mul]
    have hquo : ∑ i ∈ S, X i * Ideal.div (ew (xc i) M) ((∑ i ∈ S, w i + ε : ℝ) : EReal)
        = ((∑ i ∈ S, r i * (w i * (1 / (∑ i ∈ S, w i + ε))) : ℝ) : EReal) := by
      rw [← coe_sum']
      exact Finset.sum_congr rfl fun i hi => by rw [Ideal.div_coe hpos.ne', hw i hi, hr i hi, EReal.coe_mul, EReal.coe_mul]
    rw [hden, hquo, hnum, Ideal.div_coe hpos.ne', ← EReal.coe_mul]
    congr 1
    rw [Finset.sum_mul]
    exact Finset.sum_congr rfl fun i _ => by ring

end Cert.Proof.Math

end
-- ==== Proof.Math.Rows.lean ====
/-
  A segment sum read at an index: rows added into a table at the row numbers of an index column.
-/
module

public import Idealize.ShloMosaic.PureOps.Ideal
public import Idealize.ShloMosaic.Lib.Routing.OpsPair
public import Idealize.ShloMosaic.Lib.ValueIdxRank1

@[expose] public section

noncomputable section

namespace Cert.Proof.Math

open Idealize.ShloMosaic Idealize.ShloMosaic.ValueIdx

/-- The dimension numbers of a segment sum of `E` rows into `N` rows, `C` columns. -/
abbrev segDims (N E C : ℕ) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable {N E C : ℕ} (wf : ScatterDims.WF ⟨2, ![N, C]⟩ ⟨2, ![E, 1]⟩ ⟨2, ![E, C]⟩ [1] [0] [0] 1)

/-- Row `e` column `k'` lands at `(n, k)` exactly when its row number, read signed, is `n`, and `k' = k`. -/
theorem seg_lands (idx : IVec ⟨2, ![E, 1]⟩ 32) (e : Fin E) (k' : Fin C) (n : Fin N) (k : Fin C) :
    (segDims N E C wf).resultIdx? (ix2 e k') idx = some (ix2 n k) ↔ (idx (ix2 e 0)).toInt = (n.val : Int) ∧ k' = k := by
  have h0 : (segDims N E C wf).start (ix2 e k') idx 0 = (idx (ix2 e 0)).toInt := by
    unfold ScatterDims.start
    rw [dif_pos (show (0 : Fin 2) ∈ (segDims N E C wf).scatterDimsToOperandDims from List.mem_singleton.mpr rfl)]
    congr 2
    funext b
    match b with
    | ⟨0, _⟩ => rfl
    | ⟨1, _⟩ => rfl
  have h1 : (segDims N E C wf).start (ix2 e k') idx 1 = 0 := by
    unfold ScatterDims.start
    rw [dif_neg (show (1 : Fin 2) ∉ (segDims N E C wf).scatterDimsToOperandDims from by simp)]
  have w0 : (segDims N E C wf).window (ix2 e k') 0 = 0 := rfl
  have w1 : (segDims N E C wf).window (ix2 e k') 1 = k'.val := rfl
  rw [Routing.resultIdx?_ix2, h0, h1, w0, w1]
  constructor
  · rintro ⟨a, b⟩; exact ⟨by simpa using a, Fin.ext (by simpa using b)⟩
  · rintro ⟨a, rfl⟩; exact ⟨by simpa using a, by simp⟩

/-- The segment sum at `(n, k)`: the table's entry and the rows numbered `n`. -/
theorem seg_apply (x : (⟨2, ![N, C]⟩ : Shape).Idx → EReal) (idx : IVec ⟨2, ![E, 1]⟩ 32) (upd : (⟨2, ![E, C]⟩ : Shape).Idx → EReal)
    (n : Fin N) (k : Fin C) :
    Ideal.hostScatterAdd (segDims N E C wf) x idx upd (ix2 n k)
      = x (ix2 n k) + ∑ e ∈ Finset.univ.filter (fun e : Fin E => (idx (ix2 e 0)).toInt = (n.val : Int)), upd (ix2 e k) := by
  unfold Ideal.hostScatterAdd
  congr 1
  rw [Finset.sum_filter, sum_idx2, Finset.sum_filter]
  refine Finset.sum_congr rfl fun e _ => ?_
  rw [Finset.sum_congr rfl fun k' _ => by rw [if_congr (seg_lands wf idx e k' n k) rfl rfl]]
  by_cases h : (idx (ix2 e 0)).toInt = (n.val : Int)
  · simp [h]
  · simp [h]

end Cert.Proof.Math

end
-- ==== Proof.Math.Reference.lean ====
/-
  The reference's result at the extended reals, stage by stage, and each stage read at an index: the convolution, each
  graph's maximum, the scores and the pooled rows.
-/
module

public import proofs.«01_k».proof.Proof.Gen.ReferenceIdeal.Run
public import proofs.«01_k».proof.Proof.Math.Rows
public import Idealize.ShloMosaic.PureOps.Ideal.Laws
public import Idealize.ShloMosaic.Lib.Routing.Ops
public import Idealize.ShloMosaic.Lib.Pipeline.Value
public import Idealize.ShloMosaic.Lib.MatmulPlain
public import Idealize.ShloMosaic.Lib.IdealHost
public import Idealize.ShloMosaic.Lib.WordCmp
public import Idealize.ShloMosaic.Lib.ValueLayout
public import Idealize.ShloMosaic.Lib.ValueIdx

@[expose] public section

set_option maxRecDepth 16384

noncomputable section

namespace Cert.Proof.Ref

open Cert.ReferenceIdeal Cert.ReferenceIdeal.Gen
open Idealize.ShloMosaic Idealize.ShloMosaic.TcCoe Idealize.ShloMosaic.ValueIdx
open Cert.Proof.Math

/-! ## The stages -/

/-- A row of the edge list, flat: the sources, the targets. -/
def srcW (a1 : IVec S2x320000 32) : IVec S320000 32 :=
  shapeCast S320000 (extractStridedSlice S1x320000 ![0, 0] a1 slices_S2x320000_S1x320000_0_0) shapeCasts_S1x320000_S320000
def dstW (a1 : IVec S2x320000 32) : IVec S320000 32 :=
  shapeCast S320000 (extractStridedSlice S1x320000 ![1, 0] a1 slices_S2x320000_S1x320000_1_0) shapeCasts_S1x320000_S320000

/-- The features each edge carries. -/
def gath (a0 : FVec Ideal S10000x128 .f32) (a1 : IVec S2x320000 32) : FVec Ideal S320000x128 .f32 :=
  Host.gather gather_S10000x128_S320000x1_S320000x128_1_0_n_n_0_1_1128 a0 (broadcastInDim S320000x1 ![0] bcast_S320000_S320000x1_0
    (select (cmpi .slt (srcW a1) (broadcastInDim S320000 ![] bcast_S_S320000 (constantI S_ 32 0#32)))
      (addi (srcW a1) (broadcastInDim S320000 ![] bcast_S_S320000 (constantI S_ 32 10000#32))) (srcW a1)))

/-- The features summed over each node's incoming edges. -/
def agg (a0 : FVec Ideal S10000x128 .f32) (a1 : IVec S2x320000 32) : FVec Ideal S10000x128 .f32 :=
  Host.scatterAdd scatter_S10000x128_S320000x1_S320000x128_1_0_0_1
    (broadcastInDim S10000x128 ![] bcast_S_S10000x128 (constant S_ .f32 0x00000000#32))
    (broadcastInDim S320000x1 ![0] bcast_S320000_S320000x1_0 (dstW a1)) (gath a0 a1)

/-- The convolution's value at each node. -/
def xc (a0 : FVec Ideal S10000x128 .f32) (a1 : IVec S2x320000 32) (a3 : FVec Ideal S128x1 .f32) (a4 : FVec Ideal S1 .f32)
    (a5 : FVec Ideal S128x1 .f32) : FVec Ideal S10000x1 .f32 :=
  addf (addf (Host.dotGeneral dot_S10000x128_S128x1_S10000x1_1_0_0_1_n_n none (agg a0 a1) a3)
    (broadcastInDim S10000x1 ![0, 1] bcast_S1x1_S10000x1_0_1 (broadcastInDim S1x1 ![1] bcast_S1_S1x1_1 a4)))
    (Host.dotGeneral dot_S10000x128_S128x1_S10000x1_1_0_0_1_n_n none a0 a5)

/-- Each graph's maximum. -/
def mx (X : FVec Ideal S10000x1 .f32) (a2 : IVec S10000 32) : FVec Ideal S64x1 .f32 :=
  broadcastInDim S64x1 ![0] bcast_S64_S64x1_0 (Host.reduce FloatOps.maximumf
    (select (cmpi .eq (broadcastInDim S10000x64 ![0, 1] bcast_S10000x1_S10000x64_0_1 (broadcastInDim S10000x1 ![0] bcast_S10000_S10000x1_0 a2))
        (broadcastInDim S10000x64 ![0, 1] bcast_S1x64_S10000x64_0_1 (broadcastInDim S1x64 ![1] bcast_S64_S1x64_1 (iotaInDim S64 32 0))))
      (broadcastInDim S10000x64 ![0, 1] bcast_S10000x1_S10000x64_0_1 X)
      (broadcastInDim S10000x64 ![] bcast_S_S10000x64 (id (constant S_ .f32 0xFF800000#32))))
    (constant S_ .f32 0xFF800000#32) reducesTo_S10000x64_S64_d0 h_S_)

/-- What is subtracted: the maximum where it is finite, zero elsewhere. -/
def sm (M : FVec Ideal S64x1 .f32) : FVec Ideal S64x1 .f32 :=
  select (cmpf .olt (Host.absf M) (broadcastInDim S64x1 ![] bcast_S_S64x1 (constant S_ .f32 0x7F800000#32))) M
    (broadcastInDim S64x1 ![] bcast_S_S64x1 (id (constant S_ .f32 0x00000000#32)))

/-- A column of one value per graph, read at each node's graph. -/
def atG (T : FVec Ideal S64x1 .f32) (a2 : IVec S10000 32) : FVec Ideal S10000x1 .f32 :=
  Host.gather gather_S64x1_S10000x1_S10000x1_1_0_n_n_0_1_11 T (broadcastInDim S10000x1 ![0] bcast_S10000_S10000x1_0
    (select (cmpi .slt a2 (broadcastInDim S10000 ![] bcast_S_S10000 (constantI S_ 32 0#32)))
      (addi a2 (broadcastInDim S10000 ![] bcast_S_S10000 (constantI S_ 32 64#32))) a2))

/-- The exponentials. -/
def ex (X : FVec Ideal S10000x1 .f32) (a2 : IVec S10000 32) : FVec Ideal S10000x1 .f32 :=
  Host.exp (subf X (atG (sm (mx X a2)) a2))

/-- Each graph's sum of exponentials. -/
def den (E : FVec Ideal S10000x1 .f32) (a2 : IVec S10000 32) : FVec Ideal S64x1 .f32 :=
  Host.scatterAdd scatter_S64x1_S10000x1_S10000x1_1_0_0_1 (broadcastInDim S64x1 ![] bcast_S_S64x1 (constant S_ .f32 0x00000000#32))
    (broadcastInDim S10000x1 ![0] bcast_S10000_S10000x1_0 a2) E

/-- The pooled rows. -/
def pool (a0 : FVec Ideal S10000x128 .f32) (E : FVec Ideal S10000x1 .f32) (a2 : IVec S10000 32) : FVec Ideal S64x128 .f32 :=
  Host.scatterAdd scatter_S64x128_S10000x1_S10000x128_1_0_0_1 (broadcastInDim S64x128 ![] bcast_S_S64x128 (constant S_ .f32 0x00000000#32))
    (broadcastInDim S10000x1 ![0] bcast_S10000_S10000x1_0 a2)
    (mulf a0 (broadcastInDim S10000x128 ![0, 1] bcast_S10000x1_S10000x128_0_1
      (Host.divf E (addf (atG (den E a2) a2) (broadcastInDim S10000x1 ![] bcast_S_S10000x1 (constant S_ .f32 0x24E69595#32))))))

set_option maxHeartbeats 4000000 in
/-- The reference's result is the last stage of its arguments. -/
theorem res_eq (m : (ℓ : Loc nD τ sig) → Buf (Elt Ideal) ℓ) (c : Dev nD) :
    Value.res_main_v59 m c
      = pool (m ((c.tc : Thread nD τ).loc main_arg0))
          (ex (xc (m ((c.tc : Thread nD τ).loc main_arg0)) (m ((c.tc : Thread nD τ).loc main_arg1)) (m ((c.tc : Thread nD τ).loc main_arg3))
            (m ((c.tc : Thread nD τ).loc main_arg4)) (m ((c.tc : Thread nD τ).loc main_arg5))) (m ((c.tc : Thread nD τ).loc main_arg2)))
          (m ((c.tc : Thread nD τ).loc main_arg2)) := by
  unfold Value.res_main_v59 pool den ex sm mx xc agg gath atG srcW dstW
  rfl

/-! ## The stages read at an index -/

theorem ofBits_ninf : Ideal.ofBits .f32 0xFF800000#32 = ⊥ := by simp [Ideal.ofBits, Ideal.ieee]
theorem ofBits_pinf : Ideal.ofBits .f32 0x7F800000#32 = ⊤ := by simp [Ideal.ofBits, Ideal.ieee]

/-- The added constant is a positive real number. -/
theorem ofBits_eps : ∃ r : ℝ, 0 < r ∧ Ideal.ofBits .f32 0x24E69595#32 = r := by
  refine ⟨_, ?_, by simp [Ideal.ofBits, Ideal.ieee, -EReal.coe_mul]; rfl⟩
  norm_num

theorem srcW_apply (a1 : IVec S2x320000 32) (e : Fin 320000) : srcW a1 (ix1 e) = a1 (ix2 0 e) := by
  unfold srcW
  rw [shapeCast_1a_a_apply]
  exact slice2_axis0_apply 0 a1 _ 0 e 0 rfl
theorem dstW_apply (a1 : IVec S2x320000 32) (e : Fin 320000) : dstW a1 (ix1 e) = a1 (ix2 1 e) := by
  unfold dstW
  rw [shapeCast_1a_a_apply]
  exact slice2_axis0_apply 1 a1 _ 0 e 1 rfl

/-- An array as a column. -/
theorem col_apply {n : ℕ} {α : Type} (h : (⟨1, ![n]⟩ : Shape).BroadcastsInDim ⟨2, ![n, 1]⟩ (![0] : Fin 1 → Fin 2)) (hn : n ≠ 1)
    (x : (⟨1, ![n]⟩ : Shape).Idx → α) (i : Fin n) (u : Fin 1) :
    broadcastInDim ⟨2, ![n, 1]⟩ ![0] h x (ix2 i u) = x (ix1 i) :=
  broadcastInDim_apply _ h x _ _ fun a => by
    match a with
    | ⟨0, _⟩ => exact (if_neg hn).symm

variable (a0 : FVec Ideal S10000x128 .f32) (a1 : IVec S2x320000 32) (a2 : IVec S10000 32)

/-- An edge's source and target. -/
def src (h : ∀ j, (a1 j).toNat < 10000) (e : Fin 320000) : Fin 10000 := ⟨(a1 (ix2 0 e)).toNat, h _⟩
def dst (h : ∀ j, (a1 j).toNat < 10000) (e : Fin 320000) : Fin 10000 := ⟨(a1 (ix2 1 e)).toNat, h _⟩

theorem gath_apply (h : ∀ j, (a1 j).toNat < 10000) (e : Fin 320000) (k : Fin 128) : gath a0 a1 (ix2 e k) = a0 (ix2 (src a1 h e) k) := by
  unfold gath
  refine Routing.gather_row _ rfl rfl rfl rfl rfl a0 _ e k (src a1 h e) ?_ (by decide)
  rw [col_apply _ (by decide), WordCmp.select_at, WordCmp.cmpi_at, srcW_apply]
  show Scalar.select (IntOp.cmpi .slt (a1 (ix2 0 e)) 0#32) _ _ = _
  rw [Routing.wrap_of_lt _ _ (by have := h (ix2 0 e); show _ < 2 ^ 31; omega)]
  show a1 (ix2 0 e) = BitVec.ofNat 32 (a1 (ix2 0 e)).toNat
  simp

/-- The segment sum of the edges' features. -/
theorem agg_apply (h : ∀ j, (a1 j).toNat < 10000) (n : Fin 10000) (k : Fin 128) :
    agg a0 a1 (ix2 n k) = ∑ e ∈ Finset.univ.filter (fun e => dst a1 h e = n), a0 (ix2 (src a1 h e) k) := by
  unfold agg
  refine (seg_apply _ _ _ _ n k).trans ?_
  have hz : (broadcastInDim S10000x128 ![] bcast_S_S10000x128 (constant (F := Ideal) S_ .f32 0x00000000#32)) (ix2 n k) = 0 := Ideal.ofBits_zero_f32
  rw [hz, zero_add]
  refine Finset.sum_congr (Finset.filter_congr fun e _ => ?_) fun e _ => gath_apply a0 a1 h e k
  rw [col_apply _ (by decide), dstW_apply, WordCmp.toInt_eq_toNat_of_lt_half (by have := h (ix2 1 e); show _ < 2 ^ 31; omega)]
  unfold dst
  rw [Fin.ext_iff]
  exact Int.ofNat_inj

theorem dot_apply (x : FVec Ideal S10000x128 .f32) (w : FVec Ideal S128x1 .f32) (n : Fin 10000) :
    Host.dotGeneral dot_S10000x128_S128x1_S10000x1_1_0_0_1_n_n none x w (ix2 n 0) = ∑ k : Fin 128, x (ix2 n k) * w (ix2 k 0) := by
  have e := Ideal.matmul_plain_apply (M := 10000) (K := 128) (N := 1) none x w (fun _ => 0) n 0
  rw [zero_add] at e
  exact e

theorem xc_apply (h : ∀ j, (a1 j).toNat < 10000) (a3 : FVec Ideal S128x1 .f32) (a4 : FVec Ideal S1 .f32) (a5 : FVec Ideal S128x1 .f32) (n : Fin 10000) :
    xc a0 a1 a3 a4 a5 (ix2 n 0)
      = (∑ k : Fin 128, (∑ e ∈ Finset.univ.filter (fun e => dst a1 h e = n), a0 (ix2 (src a1 h e) k)) * a3 (ix2 k 0)) + a4 (ix1 0)
        + ∑ k : Fin 128, a0 (ix2 n k) * a5 (ix2 k 0) := by
  unfold xc
  rw [addf_apply, addf_apply, dot_apply, dot_apply]
  refine congrArg₂ (· + ·) (congrArg₂ (· + ·) (Finset.sum_congr rfl fun k _ => by rw [agg_apply a0 a1 h]) ?_) rfl
  rw [broadcastInDim_apply _ _ _ (ix2 n 0) (ix2 (0 : Fin 1) (0 : Fin 1)) (fun a => by match a with | ⟨0, _⟩ => rfl | ⟨1, _⟩ => rfl)]
  exact broadcastInDim_apply _ _ _ _ (ix1 0) (fun a => by match a with | ⟨0, _⟩ => rfl)

/-- The nodes of graph `b`. -/
def mem (b : Fin 64) : Finset (Fin 10000) := Finset.univ.filter fun n => a2 (ix1 n) = BitVec.ofNat 32 b.val

theorem toInt_iff (x : BitVec 32) (b : Fin 64) : x.toInt = (b.val : Int) ↔ x = BitVec.ofNat 32 b.val := by
  have e : (BitVec.ofNat 32 b.val).toInt = (b.val : Int) := WordCmp.toInt_ofNat_of_lt (by have := b.isLt; show _ < 2 ^ 31; omega)
  rw [← e]; exact BitVec.toInt_inj

/-- A maximum of values replaced by `⊥` off a set is the maximum over the set. -/
theorem sup_ite {ι : Type} [Fintype ι] (p : ι → Prop) [DecidablePred p] (f : ι → EReal) :
    Finset.univ.sup (fun i => if p i then f i else ⊥) = (Finset.univ.filter p).sup f := by
  apply le_antisymm
  · refine Finset.sup_le fun i _ => ?_
    by_cases hp : p i
    · rw [if_pos hp]; exact Finset.le_sup (f := f) (Finset.mem_filter.2 ⟨Finset.mem_univ i, hp⟩)
    · rw [if_neg hp]; exact bot_le
  · refine Finset.sup_le fun i hi => ?_
    have := Finset.le_sup (f := fun i => if p i then f i else ⊥) (Finset.mem_univ i)
    simpa [(Finset.mem_filter.1 hi).2] using this

theorem mx_apply (X : FVec Ideal S10000x1 .f32) (b : Fin 64) : mx X a2 (ix2 b 0) = (mem a2 b).sup fun n => X (ix2 n 0) := by
  unfold mx
  rw [col_apply _ (by decide)]
  rw [Host.reduce_eq_fold_single FloatOps.maximumf _ _ _ (by decide : S10000x64.Reduces [0] S64)]
  have hb : (constant (F := Ideal) S_ .f32 0xFF800000#32) (Shape.Idx.first h_S_) = (⊥ : EReal) := ofBits_ninf
  rw [hb]
  unfold mem
  rw [← sup_ite]
  show Finset.fold max (⊥ : EReal) _ _ = Finset.fold max (⊥ : EReal) _ _
  congr 1
  funext n
  have hl : (by decide : S10000x64.Reduces [0] S64).lift (ix1 b) n = ix2 (n0 := 10000) (n1 := 64) n b := by
    funext a
    match a with
    | ⟨0, _⟩ => rfl
    | ⟨1, _⟩ => rfl
  show select _ _ _ ((by decide : S10000x64.Reduces [0] S64).lift (ix1 b) n) = _
  rw [hl, WordCmp.select_at, WordCmp.cmpi_at, WordCmp.cmpi_eq_eq]
  have e1 : broadcastInDim S10000x64 ![0, 1] bcast_S10000x1_S10000x64_0_1 (broadcastInDim S10000x1 ![0] bcast_S10000_S10000x1_0 a2) (ix2 n b) = a2 (ix1 n) :=
    (broadcastInDim_apply _ _ _ _ (ix2 n (0 : Fin 1)) (fun a => by match a with | ⟨0, _⟩ => rfl | ⟨1, _⟩ => rfl)).trans (col_apply _ (by decide) _ _ _)
  have e2 : broadcastInDim S10000x64 ![0, 1] bcast_S1x64_S10000x64_0_1 (broadcastInDim S1x64 ![1] bcast_S64_S1x64_1 (iotaInDim S64 32 0)) (ix2 n b) = BitVec.ofNat 32 b.val :=
    (broadcastInDim_apply _ _ _ _ (ix2 (0 : Fin 1) b) (fun a => by match a with | ⟨0, _⟩ => rfl | ⟨1, _⟩ => rfl)).trans
      (broadcastInDim_apply _ _ _ _ (ix1 b) (fun a => by match a with | ⟨0, _⟩ => rfl))
  have e3 : broadcastInDim S10000x64 ![0, 1] bcast_S10000x1_S10000x64_0_1 X (ix2 n b) = X (ix2 n 0) :=
    broadcastInDim_apply _ _ _ _ (ix2 n (0 : Fin 1)) (fun a => by match a with | ⟨0, _⟩ => rfl | ⟨1, _⟩ => rfl)
  have e4 : broadcastInDim S10000x64 ![] bcast_S_S10000x64 (id (constant (F := Ideal) S_ .f32 0xFF800000#32)) (ix2 n b) = (⊥ : EReal) := ofBits_ninf
  rw [e1, e2, e3, e4, WordCmp.select_decide]

theorem sm_apply (M : FVec Ideal S64x1 .f32) (i : S64x1.Idx) : sm M i = if max (M i) (-(M i)) < ⊤ then M i else 0 := by
  unfold sm
  rw [WordCmp.select_at]
  have e1 : (broadcastInDim S64x1 ![] bcast_S_S64x1 (constant (F := Ideal) S_ .f32 0x7F800000#32)) i = (⊤ : EReal) := ofBits_pinf
  have e2 : (broadcastInDim S64x1 ![] bcast_S_S64x1 (id (constant (F := Ideal) S_ .f32 0x00000000#32))) i = (0 : EReal) := Ideal.ofBits_zero_f32
  rw [e2, cmpf_apply, e1]
  show Scalar.select (BitVec.ofBool (decide (max (M i) (-(M i)) < ⊤))) _ _ = _
  rw [WordCmp.select_decide]

/-- At a node of graph `b` the gathered column is graph `b`'s value. -/
theorem atG_apply (T : FVec Ideal S64x1 .f32) {b : Fin 64} {n : Fin 10000} (hn : n ∈ mem a2 b) : atG T a2 (ix2 n 0) = T (ix2 b 0) := by
  unfold atG
  refine Routing.gather_row _ rfl rfl rfl rfl rfl T _ n 0 b ?_ (by decide)
  have hb : a2 (ix1 n) = BitVec.ofNat 32 b.val := (Finset.mem_filter.1 hn).2
  rw [col_apply _ (by decide), WordCmp.select_at, WordCmp.cmpi_at, hb]
  show Scalar.select (IntOp.cmpi .slt (BitVec.ofNat 32 b.val) 0#32) _ _ = _
  exact Routing.wrap_of_lt _ _ (by rw [WordCmp.toNat_ofNat_of_lt (by have := b.isLt; omega)]; have := b.isLt; show _ < 2 ^ 31; omega)

theorem ex_apply (X : FVec Ideal S10000x1 .f32) {b : Fin 64} {n : Fin 10000} (hn : n ∈ mem a2 b) :
    ex X a2 (ix2 n 0) = Ideal.exp (X (ix2 n 0) - if max (mx X a2 (ix2 b 0)) (-(mx X a2 (ix2 b 0))) < ⊤ then mx X a2 (ix2 b 0) else 0) := by
  unfold ex
  show Ideal.exp (X (ix2 n 0) - atG (sm (mx X a2)) a2 (ix2 n 0)) = _
  rw [atG_apply a2 _ hn, sm_apply]

theorem filter_mem (b : Fin 64) :
    Finset.univ.filter (fun n : Fin 10000 => (broadcastInDim S10000x1 ![0] bcast_S10000_S10000x1_0 a2 (ix2 n 0)).toInt = (b.val : Int)) = mem a2 b :=
  Finset.filter_congr fun n _ => by rw [col_apply _ (by decide)]; exact toInt_iff _ _

theorem den_apply (E : FVec Ideal S10000x1 .f32) (b : Fin 64) : den E a2 (ix2 b 0) = ∑ n ∈ mem a2 b, E (ix2 n 0) := by
  unfold den
  refine (seg_apply _ _ _ _ b 0).trans ?_
  have hz : (broadcastInDim S64x1 ![] bcast_S_S64x1 (constant (F := Ideal) S_ .f32 0x00000000#32)) (ix2 b 0) = 0 := Ideal.ofBits_zero_f32
  rw [hz, zero_add, filter_mem]

/-- The result at graph `b`, column `k`. -/
theorem pool_apply (E : FVec Ideal S10000x1 .f32) (b : Fin 64) (k : Fin 128) :
    pool a0 E a2 (ix2 b k)
      = ∑ n ∈ mem a2 b, a0 (ix2 n k) * Ideal.div (E (ix2 n 0)) ((∑ n ∈ mem a2 b, E (ix2 n 0)) + Ideal.ofBits .f32 0x24E69595#32) := by
  unfold pool
  refine (seg_apply _ _ _ _ b k).trans ?_
  have hz : (broadcastInDim S64x128 ![] bcast_S_S64x128 (constant (F := Ideal) S_ .f32 0x00000000#32)) (ix2 b k) = 0 := Ideal.ofBits_zero_f32
  rw [hz, zero_add, filter_mem]
  refine Finset.sum_congr rfl fun n hn => ?_
  rw [mulf_apply, broadcastInDim_apply _ _ _ _ (ix2 n (0 : Fin 1)) (fun a => by match a with | ⟨0, _⟩ => rfl | ⟨1, _⟩ => rfl), hostDivf_apply, addf_apply,
    atG_apply a2 _ hn, den_apply]
  rfl

end Cert.Proof.Ref

end
-- ==== Proof.Math.Block.lean ====
/-
  One block of the pooling call at the extended reals, read at an index: the convolution's values, the membership table,
  the new maximum, the weights, and the new denominator and weighted sum.
-/
module

public import proofs.«01_k».proof.Proof.KI.Pool
public import proofs.«01_k».proof.Proof.Math.Softmax
public import proofs.«01_k».proof.Proof.Math.Reference
public import Idealize.ShloMosaic.PureOps.Ideal.Laws
public import Idealize.ShloMosaic.Lib.MatmulPlain
public import Idealize.ShloMosaic.Lib.ValueIdx
public import Idealize.ShloMosaic.Lib.ValueLayoutCasts

@[expose] public section

set_option maxRecDepth 16384

noncomputable section

namespace Cert.Proof.Math

open Cert.KernelIdeal Cert.KernelIdeal.Gen Cert.Proof.KI
open Idealize.ShloMosaic Idealize.ShloMosaic.ValueIdx

/-- A one-row matrix times a matrix contracted on their last axes: the row's products with each row. -/
theorem row_mul_apply (w : FVec Ideal S1x128 .f32) (X : FVec Ideal S2000x128 .f32) (i : Fin 2000) :
    matmul dot_S1x128_S2000x128_S1x2000_1_1_0_0_n_n (some .fp32) w X (constant S1x2000 .f32 0x00000000#32) (ix2 0 i)
      = ∑ k : Fin 128, w (ix2 0 k) * X (ix2 i k) := by
  have e := Ideal.matmul_transposedRhs_apply (M := 1) (K := 128) (N := 2000) (some .fp32) w X (constant S1x2000 .f32 0x00000000#32) 0 i
  rw [constant_apply, Ideal.ofBits_zero_f32, zero_add] at e
  exact e

variable (X : Vec Ideal S2000x128 .f32) (P : Vec Ideal S1x32x2000 .f32) (B : Vec Ideal S1x1x2000 .i32) (W : Vec Ideal S1x128 .f32) (R : Vec Ideal S1x1 .f32)

/-- The convolution's value at column `i` of the block. -/
def bx (i : Fin 2000) : EReal := (∑ w : Fin 32, P (ix3 0 w i)) + (∑ k : Fin 128, W (ix2 0 k) * X (ix2 i k)) + R (ix2 0 0)

theorem pay10_apply (i : Fin 2000) : k2_pay10 (F := Ideal) X P W R (ix2 0 i) = bx X P W R i := by
  unfold k2_pay10 bx
  dsimp only
  rw [addf_apply, addf_apply]
  refine congrArg₂ (· + ·) (congrArg₂ (· + ·) ?_ ?_) ?_
  · rw [shapeCast_a_1a_apply]
    refine (Ideal.multiReduction_add_single _ _ reduces_S32x2000_S2000 _ _ _).trans ?_
    refine Finset.sum_congr rfl fun (w : Fin 32) _ => ?_
    have hl : reduces_S32x2000_S2000.lift (ix1 i) w = ix2 (n0 := 32) (n1 := 2000) w i := by
      funext a
      match a with
      | ⟨0, _⟩ => rfl
      | ⟨1, _⟩ => rfl
    rw [hl, shapeCast_1ab_ab_apply, shapeCast_self]
  · rw [shapeCast_self]
    exact row_mul_apply W X i
  · rw [shapeCast_self]
    exact broadcastTo_apply _ _ _ _ fun a => by
      match a with
      | ⟨0, _⟩ => rfl
      | ⟨1, _⟩ => rfl

/-- The columns of graph `b`. -/
def bm (b : Fin 64) : Finset (Fin 2000) := Finset.univ.filter fun i => B (ix3 0 0 i) = BitVec.ofNat 32 b.val

theorem pay11_apply (b : Fin 64) (i : Fin 2000) :
    k2_pay11 (F := Ideal) B (ix2 b i) = BitVec.ofBool (decide (B (ix3 0 0 i) = BitVec.ofNat 32 b.val)) := by
  unfold k2_pay11
  dsimp only
  rw [WordCmp.cmpi_at, WordCmp.cmpi_eq_eq, broadcastTo_1b_ab_apply, shapeCast_1ab_ab_apply, shapeCast_self]
  rw [iota_single_apply]

theorem pay12_apply (b : Fin 64) (i : Fin 2000) :
    k2_pay12 (F := Ideal) B (ix2 b i) = if B (ix3 0 0 i) = BitVec.ofNat 32 b.val then 1 else 0 := by
  unfold k2_pay12
  rw [sitofp_apply, extui_apply, pay11_apply]
  show (((BitVec.ofBool _).setWidth 32).toInt : ℝ) = (_ : EReal)
  by_cases h : B (ix3 0 0 i) = BitVec.ofNat 32 b.val
  · rw [if_pos h, decide_eq_true h, show ((BitVec.ofBool true).setWidth 32).toInt = 1 from by decide]; norm_num
  · rw [if_neg h, decide_eq_false h]; norm_num

/-- The new maximum. -/
theorem pay13_apply (m : Vec Ideal S64x1 .f32) (b : Fin 64) :
    k2_pay13 (F := Ideal) X P W R B m (ix2 b 0) = max (m (ix2 b 0)) ((bm B b).sup (bx X P W R)) := by
  unfold k2_pay13
  dsimp only
  rw [maximumf_apply, shapeCast_a_a1_apply]
  refine congrArg (max (m (ix2 b 0))) ?_
  refine (Ideal.multiReduction_maximumf_single _ _ reduces_S64x2000_S64 _ _ _).trans ?_
  have hb : (FloatOps.ofBits .f32 0xFF800000#32 : Ideal .f32) = (⊥ : EReal) := Ref.ofBits_ninf
  rw [hb]
  unfold bm
  rw [← Ref.sup_ite]
  show Finset.fold max (⊥ : EReal) _ _ = Finset.fold max (⊥ : EReal) _ _
  congr 1
  funext (i : Fin 2000)
  have hl : reduces_S64x2000_S64.lift (ix1 b) i = ix2 (n0 := 64) (n1 := 2000) b i := by
    funext a
    match a with
    | ⟨0, _⟩ => rfl
    | ⟨1, _⟩ => rfl
  show select _ _ _ (reduces_S64x2000_S64.lift (ix1 b) i) = _
  rw [hl, WordCmp.select_at, pay11_apply, broadcastTo_1b_ab_apply, shapeCast_self, pay10_apply, WordCmp.select_decide]
  refine if_congr Iff.rfl rfl ?_
  exact Ref.ofBits_ninf

/-- The factor on what was there. -/
theorem pay1_apply (m : Vec Ideal S64x1 .f32) (b : Fin 64) :
    k2_pay1 (F := Ideal) (k2_pay14 X P W R B m) (k2_pay15 X P W R B m) (Scalar.ofBits .f32 0x00000000#32) (ix2 b 0)
      = al (m (ix2 b 0)) (k2_pay13 (F := Ideal) X P W R B m (ix2 b 0)) := by
  unfold k2_pay1 k2_pay14 k2_pay15 al
  dsimp only
  generalize k2_pay13 (F := Ideal) X P W R B m = M
  have hb : (Scalar.ofBits .f32 0xFF800000#32 : Ideal .f32) = (⊥ : EReal) := Ref.ofBits_ninf
  have hz : (Scalar.ofBits .f32 0x00000000#32 : Ideal .f32) = (0 : EReal) := Ideal.ofBits_zero_f32
  show Ideal.exp (select _ _ _ (ix2 b 0)) = _
  rw [WordCmp.select_at, cmpf_apply, broadcast_apply, broadcast_apply, hb, hz, subf_apply]
  show Ideal.exp (Scalar.select (BitVec.ofBool (decide (M (ix2 b 0) = ⊥))) _ _) = _
  rw [WordCmp.select_decide]

/-- The contraction over the graphs, as a sum. -/
theorem graph_mul_apply (v : FVec Ideal S64x1 .f32) (t : FVec Ideal S64x2000 .f32) (i : Fin 2000) :
    matmul dot_S64x1_S64x2000_S1x2000_0_0_1_1_n_n (some .fp32) v t (constant S1x2000 .f32 0x00000000#32) (ix2 0 i)
      = ∑ b : Fin 64, v (ix2 b 0) * t (ix2 b i) := by
  refine (Ideal.matmul_constant_zero_apply _ _ _ _ _).trans ?_
  have hr : dot_S64x1_S64x2000_S1x2000_0_0_1_1_n_n.contr.rank = 1 := rfl
  have hs : dot_S64x1_S64x2000_S1x2000_0_0_1_1_n_n.contr.size ⟨0, by omega⟩ = 64 := rfl
  rw [← Equiv.sum_comp (contrEquiv1 dot_S64x1_S64x2000_S1x2000_0_0_1_1_n_n 64 hr hs).symm]
  refine Finset.sum_congr rfl fun b _ => ?_
  have hk := contrEquiv1_symm_val dot_S64x1_S64x2000_S1x2000_0_0_1_1_n_n 64 hr hs b
  have el : dot_S64x1_S64x2000_S1x2000_0_0_1_1_n_n.lhsIdx (ix2 0 i) ((contrEquiv1 dot_S64x1_S64x2000_S1x2000_0_0_1_1_n_n 64 hr hs).symm b) = ix2 b 0 := by
    funext a; apply Fin.ext
    match a with
    | ⟨0, _⟩ => exact hk
    | ⟨1, _⟩ => rfl
  have er : dot_S64x1_S64x2000_S1x2000_0_0_1_1_n_n.rhsIdx (ix2 0 i) ((contrEquiv1 dot_S64x1_S64x2000_S1x2000_0_0_1_1_n_n 64 hr hs).symm b) = ix2 b i := by
    funext a; apply Fin.ext
    match a with
    | ⟨0, _⟩ => exact hk
    | ⟨1, _⟩ => rfl
  rw [el, er]

theorem ofNat_inj64 (b b' : Fin 64) (h : BitVec.ofNat 32 b.val = BitVec.ofNat 32 b'.val) : b = b' :=
  Fin.ext ((WordCmp.ofNat_eq_ofNat_iff (by have := b.isLt; omega) (by have := b'.isLt; omega)).1 h)

/-- The weights: of a column's own graph its exponential, elsewhere zero. -/
theorem pay2_apply (v : FVec Ideal S1x2000 .f32) (M : FVec Ideal S64x1 .f32) (b : Fin 64) (i : Fin 2000) :
    k2_pay2 (F := Ideal) v (k2_pay12 B) M (ix2 b i)
      = if B (ix3 0 0 i) = BitVec.ofNat 32 b.val then ew (v (ix2 0 i)) (M (ix2 b 0)) else 0 := by
  unfold k2_pay2
  rw [mulf_apply, pay12_apply, broadcastTo_1b_ab_apply]
  by_cases h : B (ix3 0 0 i) = BitVec.ofNat 32 b.val
  · rw [if_pos h, if_pos h, one_mul]
    have hb : (Scalar.ofBits .f32 0xFF800000#32 : Ideal .f32) = (⊥ : EReal) := Ref.ofBits_ninf
    have hz : (Scalar.ofBits .f32 0x00000000#32 : Ideal .f32) = (0 : EReal) := Ideal.ofBits_zero_f32
    show Ideal.exp (v (ix2 0 i) - _) = Ideal.exp (v (ix2 0 i) - base (M (ix2 b 0)))
    refine congrArg (fun z => Ideal.exp (v (ix2 0 i) - z)) ?_
    refine (graph_mul_apply _ _ i).trans ?_
    rw [Finset.sum_eq_single b]
    · rw [pay12_apply, if_pos h, mul_one, WordCmp.select_at, cmpf_apply, broadcast_apply, broadcast_apply, hb, hz]
      show Scalar.select (BitVec.ofBool (decide (M (ix2 b 0) = ⊥))) _ _ = _
      rw [WordCmp.select_decide]
      rfl
    · intro b' _ hne
      rw [pay12_apply, if_neg fun e => hne (ofNat_inj64 b' b (e.symm.trans h)), mul_zero]
    · intro hn; exact absurd (Finset.mem_univ b) hn
  · rw [if_neg h, if_neg h, zero_mul]

/-- The new denominator. -/
theorem pay3_apply (v : FVec Ideal S1x2000 .f32) (M d : FVec Ideal S64x1 .f32) (c : IVec S64x1 1) (q : FVec Ideal S64x1 .f32) (z : Ideal .f32) (b : Fin 64) :
    k2_pay3 (F := Ideal) v (k2_pay12 B) M c q z d (ix2 b 0)
      = d (ix2 b 0) * k2_pay1 (F := Ideal) c q z (ix2 b 0) + ∑ i ∈ bm B b, ew (v (ix2 0 i)) (M (ix2 b 0)) := by
  unfold k2_pay3
  dsimp only
  rw [shapeCast_self, addf_apply, mulf_apply, shapeCast_a_a1_apply]
  refine congrArg (d (ix2 b 0) * k2_pay1 (F := Ideal) c q z (ix2 b 0) + ·) ?_
  refine (Ideal.multiReduction_add_single _ _ reduces_S64x2000_S64 _ _ _).trans ?_
  unfold bm
  rw [Finset.sum_filter]
  refine Finset.sum_congr rfl fun (i : Fin 2000) _ => ?_
  have hl : reduces_S64x2000_S64.lift (ix1 b) i = ix2 (n0 := 64) (n1 := 2000) b i := by
    funext a
    match a with
    | ⟨0, _⟩ => rfl
    | ⟨1, _⟩ => rfl
  rw [hl, pay2_apply]

/-- A column broadcast over the columns. -/
theorem bcol_apply (v : FVec Ideal S64x1 .f32) (b : Fin 64) (k : Fin 128) : broadcastTo S64x128 v broadcasts_S64x1_S64x128 (ix2 b k) = v (ix2 b 0) :=
  broadcastTo_apply _ _ _ _ fun a => by
    match a with
    | ⟨0, _⟩ => rfl
    | ⟨1, _⟩ => rfl

/-- The new weighted sum. -/
theorem pay4_apply (v : FVec Ideal S1x2000 .f32) (M : FVec Ideal S64x1 .f32) (g : FVec Ideal S64x128 .f32) (c : IVec S64x1 1) (q : FVec Ideal S64x1 .f32) (z : Ideal .f32)
    (b : Fin 64) (k : Fin 128) :
    k2_pay4 (F := Ideal) X v (k2_pay12 B) M c q z g (ix2 b k)
      = g (ix2 b k) * k2_pay1 (F := Ideal) c q z (ix2 b 0) + ∑ i ∈ bm B b, ew (v (ix2 0 i)) (M (ix2 b 0)) * X (ix2 i k) := by
  unfold k2_pay4
  rw [shapeCast_self, addf_apply, mulf_apply, bcol_apply]
  refine congrArg (g (ix2 b k) * k2_pay1 (F := Ideal) c q z (ix2 b 0) + ·) ?_
  have e := Ideal.matmul_plain_apply (φ₂ := .f32) (M := 64) (K := 2000) (N := 128) (some .fp32) (k2_pay2 (F := Ideal) v (k2_pay12 B) M) (X : FVec Ideal S2000x128 .f32) (constant S64x128 .f32 0x00000000#32) b k
  rw [constant_apply, Ideal.ofBits_zero_f32, zero_add] at e
  refine Eq.trans e ?_
  unfold bm
  rw [Finset.sum_filter]
  refine Finset.sum_congr rfl fun i _ => ?_
  rw [pay2_apply]
  by_cases h : B (ix3 0 0 i) = BitVec.ofNat 32 b.val
  · rw [if_pos h, if_pos h]
  · rw [if_neg h, if_neg h, zero_mul]

/-! ## The step and the output -/

variable (s : Pool.St Ideal) (b : Fin 64) (k : Fin 128)

theorem step_m : (Pool.step X P B W R s).m (ix2 b 0) = max (s.m (ix2 b 0)) ((bm B b).sup (bx X P W R)) := by
  show k2_pay5 (F := Ideal) (k2_pay13 X P W R B s.m) (ix2 b 0) = _
  unfold k2_pay5
  rw [shapeCast_self, pay13_apply]

theorem step_d : (Pool.step X P B W R s).d (ix2 b 0)
    = s.d (ix2 b 0) * al (s.m (ix2 b 0)) ((Pool.step X P B W R s).m (ix2 b 0)) + ∑ i ∈ bm B b, ew (bx X P W R i) ((Pool.step X P B W R s).m (ix2 b 0)) := by
  have hM : (Pool.step X P B W R s).m (ix2 b 0) = k2_pay13 (F := Ideal) X P W R B s.m (ix2 b 0) := by rw [step_m, pay13_apply]
  rw [hM]
  show k2_pay3 (F := Ideal) _ _ _ _ _ _ _ (ix2 b 0) = _
  rw [pay3_apply, pay1_apply]
  refine congrArg (s.d (ix2 b 0) * al (s.m (ix2 b 0)) (k2_pay13 (F := Ideal) X P W R B s.m (ix2 b 0)) + ·) (Finset.sum_congr rfl fun i _ => by rw [pay10_apply])

theorem step_g : (Pool.step X P B W R s).g (ix2 b k)
    = s.g (ix2 b k) * al (s.m (ix2 b 0)) ((Pool.step X P B W R s).m (ix2 b 0))
      + ∑ i ∈ bm B b, ew (bx X P W R i) ((Pool.step X P B W R s).m (ix2 b 0)) * X (ix2 i k) := by
  have hM : (Pool.step X P B W R s).m (ix2 b 0) = k2_pay13 (F := Ideal) X P W R B s.m (ix2 b 0) := by rw [step_m, pay13_apply]
  rw [hM]
  show k2_pay4 (F := Ideal) _ _ _ _ _ _ _ _ (ix2 b k) = _
  rw [pay4_apply, pay1_apply]
  refine congrArg (s.g (ix2 b k) * al (s.m (ix2 b 0)) (k2_pay13 (F := Ideal) X P W R B s.m (ix2 b 0)) + ·) (Finset.sum_congr rfl fun i _ => by rw [pay10_apply])

theorem init_m : (Pool.init : Pool.St Ideal).m (ix2 b 0) = (⊥ : EReal) := by
  show k2_pay7 (F := Ideal) (ix2 b 0) = _
  unfold k2_pay7
  rw [shapeCast_self]
  exact Ref.ofBits_ninf
theorem init_d : (Pool.init : Pool.St Ideal).d (ix2 b 0) = (0 : EReal) := by
  show k2_pay8 (F := Ideal) (ix2 b 0) = _
  unfold k2_pay8
  rw [shapeCast_self]
  exact Ideal.ofBits_zero_f32
theorem init_g : (Pool.init : Pool.St Ideal).g (ix2 b k) = (0 : EReal) := by
  show k2_pay9 (F := Ideal) (ix2 b k) = _
  unfold k2_pay9
  rw [shapeCast_self]
  exact Ideal.ofBits_zero_f32

theorem out_apply : Pool.out s (ix2 b k) = Ideal.div (s.g (ix2 b k)) (s.d (ix2 b 0) + Ideal.ofBits .f32 0x24E69595#32) := by
  unfold Pool.out k2_pay6
  rw [divf_apply, bcol_apply, addf_apply]
  rfl

end Cert.Proof.Math

end
-- ==== Proof.Math.Pool.lean ====
/-
  The pooling call over all its blocks: after the first `n` blocks the kept maximum, denominator and weighted sum are
  those of the graph's nodes among the first `2000 n`.
-/
module

public import proofs.«01_k».proof.Proof.Math.Block

@[expose] public section

set_option maxRecDepth 16384

noncomputable section

namespace Cert.Proof.Math

open Cert.KernelIdeal Cert.KernelIdeal.Gen Cert.Proof.KI
open Idealize.ShloMosaic Idealize.ShloMosaic.ValueIdx

/-- The node at column `i` of block `t`. -/
def node (t : Fin 5) (i : Fin 2000) : Fin 10000 := ⟨2000 * t.val + i.val, by have := t.isLt; have := i.isLt; omega⟩

theorem node_inj (t : Fin 5) {i j : Fin 2000} (h : node t i = node t j) : i = j := by
  have e : 2000 * t.val + i.val = 2000 * t.val + j.val := congrArg Fin.val h
  exact Fin.ext (by omega)

theorem xrows_apply (x : S10000x128.Idx → EReal) (t : Fin 5) (i : Fin 2000) (k : Fin 128) :
    Proj.xrows (F := Ideal) x t (ix2 i k) = x (ix2 (node t i) k) := by
  unfold Proj.xrows
  refine congrArg x ?_
  funext a
  match a with
  | ⟨0, _⟩ => rfl
  | ⟨1, _⟩ => rfl

/-- The nodes of graph `b` among the first `n` blocks. -/
def seen (B : Fin 10000 → BitVec 32) (n : ℕ) (b : Fin 64) : Finset (Fin 10000) :=
  Finset.univ.filter fun v => v.val < 2000 * n ∧ B v = BitVec.ofNat 32 b.val

theorem seen_zero (B : Fin 10000 → BitVec 32) (b : Fin 64) : seen B 0 b = ∅ := by
  unfold seen; ext v; simp

theorem seen_all (B : Fin 10000 → BitVec 32) (b : Fin 64) : seen B 5 b = Finset.univ.filter fun v => B v = BitVec.ofNat 32 b.val := by
  unfold seen; ext v
  have := v.isLt
  simp only [Finset.mem_filter, Finset.mem_univ, true_and]
  exact ⟨fun h => h.2, fun h => ⟨by omega, h⟩⟩

variable (Bv : Fin 10000 → BitVec 32) (Bt : Vec Ideal S1x1x2000 .i32) (t : Fin 5) (hB : ∀ i, Bt (ix3 0 0 i) = Bv (node t i)) (b : Fin 64)
include hB

theorem seen_succ : seen Bv (t.val + 1) b = seen Bv t.val b ∪ (bm Bt b).image (node t) := by
  ext v
  unfold seen bm
  simp only [Finset.mem_union, Finset.mem_filter, Finset.mem_univ, true_and, Finset.mem_image]
  constructor
  · rintro ⟨h1, h2⟩
    by_cases hv : v.val < 2000 * t.val
    · exact .inl ⟨hv, h2⟩
    · have e : node t ⟨v.val - 2000 * t.val, by omega⟩ = v := Fin.ext (show 2000 * t.val + (v.val - 2000 * t.val) = v.val by omega)
      exact .inr ⟨⟨v.val - 2000 * t.val, by omega⟩, by rw [hB, e]; exact h2, e⟩
  · rintro (⟨h1, h2⟩ | ⟨i, hi, rfl⟩)
    · exact ⟨by omega, h2⟩
    · refine ⟨?_, by rw [← hB]; exact hi⟩
      have := i.isLt
      show 2000 * t.val + i.val < 2000 * (t.val + 1)
      omega

theorem seen_disj : Disjoint (seen Bv t.val b) ((bm Bt b).image (node t)) := by
  rw [Finset.disjoint_left]
  intro v hv hv'
  obtain ⟨i, _, rfl⟩ := Finset.mem_image.1 hv'
  have h := (Finset.mem_filter.1 hv).2.1
  have h' : 2000 * t.val + i.val < 2000 * t.val := h
  omega

theorem sup_succ (f : Fin 10000 → EReal) : (seen Bv (t.val + 1) b).sup f = max ((seen Bv t.val b).sup f) ((bm Bt b).sup fun i => f (node t i)) := by
  rw [seen_succ Bv Bt t hB b, Finset.sup_union, Finset.sup_image]
  rfl

theorem sum_succ (f : Fin 10000 → EReal) : ∑ v ∈ seen Bv (t.val + 1) b, f v = (∑ v ∈ seen Bv t.val b, f v) + ∑ i ∈ bm Bt b, f (node t i) := by
  rw [seen_succ Bv Bt t hB b, Finset.sum_union (seen_disj Bv Bt t hB b), Finset.sum_image fun i _ j _ h => node_inj t h]

omit hB
variable (x : S10000x128.Idx → EReal) (hx : ∀ j, ∃ r : ℝ, x j = (r : EReal)) (p : S5x32x2000.Idx → EReal) (b5 : S5x1x2000.Idx → BitVec 32)
  (W : Vec Ideal S1x128 .f32) (R : Vec Ideal S1x1 .f32) (kc : Fin 10000 → EReal)
  (hkc : ∀ t i, bx (Proj.xrows (F := Ideal) x t) (Pool.prows (F := Ideal) p t) W R i = kc (node t i))
  (hb5 : ∀ t i, Pool.brows (F := Ideal) b5 t (ix3 0 0 i) = Bv (node t i))
include hx hkc hb5

/-- What is kept after `n` blocks. -/
theorem kept (n : ℕ) (hn : n ≤ 5) :
    (Pool.poolSt (F := Ideal) x p b5 W R n).m (ix2 b 0) = (seen Bv n b).sup kc
    ∧ (Pool.poolSt (F := Ideal) x p b5 W R n).d (ix2 b 0) = ∑ v ∈ seen Bv n b, ew (kc v) ((seen Bv n b).sup kc)
    ∧ ∀ k : Fin 128, (Pool.poolSt (F := Ideal) x p b5 W R n).g (ix2 b k) = ∑ v ∈ seen Bv n b, ew (kc v) ((seen Bv n b).sup kc) * x (ix2 v k) := by
  induction n with
  | zero =>
    rw [seen_zero]
    exact ⟨init_m b, init_d b, fun k => init_g b k⟩
  | succ n ih =>
    obtain ⟨im, id', ig⟩ := ih (by omega)
    have hlt : n < 5 := by omega
    have hS : Pool.poolSt (F := Ideal) x p b5 W R (n + 1)
        = Pool.step (Proj.xrows x ⟨n, hlt⟩) (Pool.prows p ⟨n, hlt⟩) (Pool.brows b5 ⟨n, hlt⟩) W R (Pool.poolSt x p b5 W R n) := dif_pos hlt
    have hM : (Pool.poolSt (F := Ideal) x p b5 W R (n + 1)).m (ix2 b 0) = (seen Bv (n + 1) b).sup kc := by
      rw [hS, step_m, im, sup_succ Bv _ ⟨n, hlt⟩ (hb5 ⟨n, hlt⟩) b kc]
      refine congrArg (max ((seen Bv n b).sup kc)) (Finset.sup_congr rfl fun i _ => hkc _ i)
    have hle : (seen Bv n b).sup kc ≤ (seen Bv (n + 1) b).sup kc := by
      rw [sup_succ Bv _ ⟨n, hlt⟩ (hb5 ⟨n, hlt⟩) b kc]; exact le_max_left _ _
    have hal := al_real hle
    refine ⟨hM, ?_, fun k => ?_⟩
    · have e := step_d (Proj.xrows (F := Ideal) x ⟨n, hlt⟩) (Pool.prows p ⟨n, hlt⟩) (Pool.brows (F := Ideal) b5 ⟨n, hlt⟩) W R (Pool.poolSt x p b5 W R n) b
      rw [← hS, hM, im, id'] at e
      rw [e, sum_mul_real _ _ _ (fun v hv => (ew_real (Finset.le_sup (f := kc) hv)).imp fun _ h => h.2) hal,
        sum_succ Bv _ ⟨n, hlt⟩ (hb5 ⟨n, hlt⟩) b fun v => ew (kc v) ((seen Bv (n + 1) b).sup kc)]
      refine congrArg₂ (· + ·) (Finset.sum_congr rfl fun v hv => ?_) (Finset.sum_congr rfl fun i _ => ?_)
      · exact ew_al (Finset.le_sup (f := kc) hv) hle
      · rw [hkc]
    · have e := step_g (Proj.xrows (F := Ideal) x ⟨n, hlt⟩) (Pool.prows p ⟨n, hlt⟩) (Pool.brows (F := Ideal) b5 ⟨n, hlt⟩) W R (Pool.poolSt x p b5 W R n) b k
      rw [← hS, hM, im, ig k] at e
      have hreal : ∀ v ∈ seen Bv n b, ∃ r : ℝ, ew (kc v) ((seen Bv n b).sup kc) * x (ix2 v k) = (r : EReal) := fun v hv => by
        obtain ⟨r, _, hr⟩ := ew_real (Finset.le_sup (f := kc) hv)
        obtain ⟨q, hq⟩ := hx (ix2 v k)
        exact ⟨r * q, by rw [hr, hq]; exact (EReal.coe_mul r q).symm⟩
      rw [e, sum_mul_real _ _ _ hreal hal,
        sum_succ Bv _ ⟨n, hlt⟩ (hb5 ⟨n, hlt⟩) b fun v => ew (kc v) ((seen Bv (n + 1) b).sup kc) * x (ix2 v k)]
      refine congrArg₂ (· + ·) (Finset.sum_congr rfl fun v hv => ?_) (Finset.sum_congr rfl fun i _ => ?_)
      · rw [mul_right_comm, ew_al (Finset.le_sup (f := kc) hv) hle]
      · rw [hkc, xrows_apply]

/-- The pooled array at an index. -/
theorem poolOf_apply (k : Fin 128) :
    Pool.poolOf (F := Ideal) x p b5 W R (ix2 b k)
      = Ideal.div (∑ v ∈ seen Bv 5 b, ew (kc v) ((seen Bv 5 b).sup kc) * x (ix2 v k))
          ((∑ v ∈ seen Bv 5 b, ew (kc v) ((seen Bv 5 b).sup kc)) + Ideal.ofBits .f32 0x24E69595#32) := by
  obtain ⟨_, hd, hg⟩ := kept Bv b x hx p b5 W R kc hkc hb5 5 le_rfl
  unfold Pool.poolOf
  rw [out_apply, hd, hg]

end Cert.Proof.Math

end
-- ==== Proof.Math.Edges.lean ====
/-
  The tiles' accumulators at the extended reals, as sums over edges: one indexed store adds its lanes, a tile's row is
  the sum over its ten thousand edges, and the thirty-two rows together are the sum over all edges.
-/
module

public import proofs.«01_k».proof.Proof.KI.Spec
public import Idealize.ShloMosaic.PureOps.Ideal.Laws
public import Idealize.ShloMosaic.Lib.ValueIdx
public import Idealize.ShloMosaic.Lib.ValueIdxRank1

@[expose] public section

set_option maxRecDepth 16384

noncomputable section

namespace Cert.Proof.Math

open Cert.KernelIdeal Cert.KernelIdeal.Gen Cert.Proof.KI
open Idealize.ShloMosaic Idealize.ShloMosaic.ValueIdx

/-- Adding to an entry at each element of a list in turn adds, at `j`, the elements that name `j`. -/
theorem foldl_add {κ ι : Type} (hit : κ → ι → Prop) [∀ k j, Decidable (hit k j)] (at_ : κ → ι) (hat : ∀ k j, hit k j → at_ k = j) (v : κ → EReal)
    (l : List κ) (f : ι → EReal) (j : ι) :
    l.foldl (fun g k => fun j => if hit k j then g (at_ k) + v k else g j) f j = f j + (l.map fun k => if hit k j then v k else 0).sum := by
  induction l generalizing f with
  | nil => simp
  | cons a l ih =>
    rw [List.foldl_cons, ih, List.map_cons, List.sum_cons, ← add_assoc]
    congr 1
    by_cases h : hit a j
    · rw [if_pos h, if_pos h, hat a j h]
    · rw [if_neg h, if_neg h, add_zero]

/-- An indexed store that adds, unmasked, at an index: what was there and the lanes that name it. -/
theorem storeIdx_add_apply {N n : ℕ} (f : (⟨1, ![N]⟩ : Shape).Idx → EReal) (g : IVec ⟨1, ![n]⟩ 32) (v : (⟨1, ![n]⟩ : Shape).Idx → EReal)
    (h : ∀ (a : Fin 1) x, ((![g] : Fin 1 → IVec ⟨1, ![n]⟩ 32) a x).toNat < (⟨1, ![N]⟩ : Shape).size a) (j : Fin N) :
    storeIdx (F := Ideal) (s := ⟨1, ![N]⟩) (e := .f32) f ![g] v (fun _ => 1#1) true h (ix1 j)
      = f (ix1 j) + ∑ k : Fin n, if (g (ix1 k)).toNat = j.val then v (ix1 k) else 0 := by
  have hl : ∀ k : Fin n, (Shape.ofLane k : (⟨1, ![n]⟩ : Shape).Idx) = ix1 k := fun k => by
    funext a; obtain rfl : a = 0 := Subsingleton.elim _ _; rfl
  have e := foldl_add (κ := Fin n) (ι := (⟨1, ![N]⟩ : Shape).Idx)
    (fun k j => ∀ a, (j a).val = (idxAt ![g] h (Shape.ofLane k) a).val) (fun k => idxAt ![g] h (Shape.ofLane k))
    (fun k j hj => funext fun a => Fin.ext (hj a).symm) (fun k => v (Shape.ofLane k)) (List.finRange n) f (ix1 j)
  refine Eq.trans ?_ (e.trans ?_)
  · unfold storeIdx
    refine congrFun (congrArg (fun F => List.foldl F f (List.finRange n)) (funext fun g' => funext fun k => ?_)) (ix1 j)
    refine (if_pos rfl).trans ?_
    funext j
    dsimp only
    simp only [if_true]
    rfl
  · rw [← Fin.sum_univ_def]
    refine congrArg (f (ix1 j) + ·) (Finset.sum_congr rfl fun k _ => ?_)
    rw [hl k]
    refine if_congr ⟨fun q => (q 0).symm, fun q a => ?_⟩ rfl rfl
    obtain rfl : a = 0 := Subsingleton.elim _ _
    exact q.symm

variable (y : S10000.Idx → EReal)

/-- What edge `e` of a list of `N` adds at node `n`. -/
def term {N : ℕ} (s d : (⟨1, ![N]⟩ : Shape).Idx → BitVec 32) (hs : ∀ j, (s j).toNat < 10000) (n : Fin 10000) (e : ℕ) : EReal :=
  if h : e < N then if (d (ix1 ⟨e, h⟩)).toNat = n.val then y (ix1 ⟨(s (ix1 ⟨e, h⟩)).toNat, hs _⟩) else 0 else 0

theorem grp_apply {α : Type} (s : S10000.Idx → α) (k : Fin k1_t2_loop.trips) (x : Fin 16) (h : 16 * k.val + x.val < 10000) :
    grp s k (ix1 x) = s (ix1 ⟨16 * k.val + x.val, h⟩) := by
  unfold grp
  refine congrArg s (funext fun a => Fin.ext ?_)
  obtain rfl : a = 0 := Subsingleton.elim _ _
  show k1_off3 k 0 + 1 * x.val = 16 * k.val + x.val
  rw [k1_off3_eq]
  show 16 * k.val + 1 * x.val = _
  omega

theorem trips_eq : k1_t2_loop.trips = 625 := by decide +kernel

/-- The accumulator after `n` groups of sixteen edges: the sum over those edges. -/
theorem accK_apply (s d : S10000.Idx → BitVec 32) (hs : ∀ j, (s j).toNat < 10000) (hd : ∀ j, (d j).toNat < 10000) (j : Fin 10000) (n : ℕ) (hn : n ≤ 625) :
    accK (F := Ideal) y s d hs hd n (ix1 j) = ∑ e ∈ Finset.range (16 * n), term y (N := 10000) s d hs j e := by
  induction n with
  | zero => exact Ideal.ofBits_zero_f32
  | succ n ih =>
    have hlt : n < k1_t2_loop.trips := by rw [trips_eq]; omega
    have e := accK_succ (F := Ideal) y s d hs hd ⟨n, hlt⟩
    rw [show accK (F := Ideal) y s d hs hd (n + 1) = _ from e]
    unfold accStep
    refine (storeIdx_add_apply _ _ _ _ j).trans ?_
    rw [show accK (F := Ideal) y s d hs hd ((⟨n, hlt⟩ : Fin k1_t2_loop.trips).val) (ix1 j) = _ from ih (by omega),
      show 16 * (n + 1) = 16 * n + 16 from by ring, Finset.sum_range_add]
    refine congrArg (_ + ·) ?_
    rw [Finset.sum_range]
    refine Finset.sum_congr rfl fun x _ => ?_
    have hx : 16 * n + x.val < 10000 := by have := x.isLt; omega
    rw [grp_apply d ⟨n, hlt⟩ x hx]
    unfold term
    rw [dif_pos hx]
    refine if_congr Iff.rfl ?_ rfl
    show y _ = y _
    refine congrArg y (funext fun a => Fin.ext ?_)
    obtain rfl : a = 0 := Subsingleton.elim _ _
    show (grp s ⟨n, hlt⟩ (ix1 x)).toNat = (s (ix1 ⟨16 * n + x.val, hx⟩)).toNat
    rw [grp_apply s ⟨n, hlt⟩ x hx]

theorem chunk_apply {α : Type} (f : S320000.Idx → α) (w : Fin 32) (e : Fin 10000) (h : 10000 * w.val + e.val < 320000) :
    chunk (tileOf w) f (ix1 e) = f (ix1 ⟨10000 * w.val + e.val, h⟩) := by
  unfold chunk
  refine congrArg f (funext fun a => Fin.ext ?_)
  obtain rfl : a = 0 := Subsingleton.elim _ _
  show k1_off1 (tileOf w) 0 + 1 * e.val = 10000 * w.val + e.val
  rw [k1_off1_eq]
  show 20000 * (w.val / 2) + 10000 * (w.val % 2) + 1 * e.val = _
  omega

/-- Tile `w`'s row: the sum over its ten thousand edges. -/
theorem accFin_apply (fs fd : S320000.Idx → BitVec 32) (hs : ∀ j, (fs j).toNat < 10000) (hd : ∀ j, (fd j).toNat < 10000) (w : Fin 32) (j : Fin 10000) :
    accFin (F := Ideal) y fs fd hs hd (tileOf w) (ix1 j) = ∑ e ∈ Finset.range 10000, term y (N := 320000) fs fd hs j (10000 * w.val + e) := by
  unfold accFin
  rw [trips_eq, accK_apply y _ _ _ _ j 625 le_rfl]
  refine Finset.sum_congr rfl fun e he => ?_
  have he : e < 10000 := by simpa using he
  have hw : 10000 * w.val + e < 320000 := by have := w.isLt; omega
  unfold term
  rw [dif_pos he, dif_pos hw, chunk_apply fd w ⟨e, he⟩ hw]
  refine if_congr Iff.rfl (congrArg y (funext fun a => Fin.ext ?_)) rfl
  obtain rfl : a = 0 := Subsingleton.elim _ _
  show (chunk (tileOf w) fs (ix1 ⟨e, he⟩)).toNat = (fs (ix1 ⟨10000 * w.val + e, hw⟩)).toNat
  rw [chunk_apply fs w ⟨e, he⟩ hw]

/-- Blocks of ten thousand make the whole range. -/
theorem sum_blocks (G : ℕ → EReal) (n : ℕ) :
    ∑ w ∈ Finset.range n, ∑ e ∈ Finset.range 10000, G (10000 * w + e) = ∑ e ∈ Finset.range (10000 * n), G e := by
  induction n with
  | zero => simp
  | succ n ih => rw [Finset.sum_range_succ, ih, show 10000 * (n + 1) = 10000 * n + 10000 from by ring, Finset.sum_range_add]

/-- The tiles' rows together: the sum over the edges whose target is the node. -/
theorem parts_sum (fs fd : S320000.Idx → BitVec 32) (hs : ∀ j, (fs j).toNat < 10000) (hd : ∀ j, (fd j).toNat < 10000) (j : Fin 10000) :
    ∑ w : Fin 32, accFin (F := Ideal) y fs fd hs hd (tileOf w) (ix1 j)
      = ∑ e ∈ Finset.univ.filter (fun e : Fin 320000 => (fd (ix1 e)).toNat = j.val), y (ix1 ⟨(fs (ix1 e)).toNat, hs _⟩) := by
  rw [Finset.sum_congr rfl fun w _ => accFin_apply y fs fd hs hd w j,
    ← Finset.sum_range (fun w => ∑ e ∈ Finset.range 10000, term y (N := 320000) fs fd hs j (10000 * w + e)), sum_blocks]
  rw [Finset.sum_range, Finset.sum_filter]
  refine Finset.sum_congr rfl fun e _ => ?_
  unfold term
  exact dif_pos e.isLt

end Cert.Proof.Math

end
-- ==== Proof.Math.Join.lean ====
/-
  The two results are the same array: the kernel projects before it sums over edges and pools block by block under a
  running maximum, the reference sums first and pools once.
-/
module

public import proofs.«01_k».proof.Proof.Math.Pool
public import proofs.«01_k».proof.Proof.Math.Edges
public import proofs.«01_k».proof.Proof.KI.Vals

@[expose] public section

set_option maxRecDepth 16384

noncomputable section

namespace Cert.Proof.Math

open Cert.KernelIdeal Cert.KernelIdeal.Gen Cert.Proof.KI
open Idealize.ShloMosaic Idealize.ShloMosaic.ValueIdx

/-! ## Reshapes at an index -/

theorem col_row {α : Type} (w : S128x1.Idx → α) (k : Fin 128) : shapeCast S1x128 w shapeCasts_S128x1_S1x128 (ix2 0 k) = w (ix2 k 0) :=
  shapeCast_apply _ _ _ _ (by
    refine (Shape.rowMajor_val_two _).trans (Eq.trans ?_ (Shape.rowMajor_val_two _).symm)
    show k.val * 1 + 0 = 0 * 128 + k.val
    omega)

theorem one_one {α : Type} (r : S1.Idx → α) : shapeCast S1x1 r shapeCasts_S1_S1x1 (ix2 0 0) = r (ix1 0) :=
  shapeCast_apply _ _ _ _ (by
    refine (Shape.rowMajor_val_one _).trans (Eq.trans ?_ (Shape.rowMajor_val_two _).symm)
    rfl)

theorem graph_row (a : S10000.Idx → BitVec 32) (t : Fin 5) (i : Fin 2000) :
    Pool.brows (F := Ideal) (shapeCast S5x1x2000 a shapeCasts_S10000_S5x1x2000) t (ix3 0 0 i) = a (ix1 (node t i)) :=
  shapeCast_apply _ _ _ _ (by
    refine (Shape.rowMajor_val_one _).trans (Eq.trans ?_ (Shape.rowMajor_val_three _).symm)
    show 2000 * t.val + i.val = (t.val * 1 + 0) * 2000 + i.val
    omega)

/-! ## The projection at a node -/

theorem proj_apply (x : S10000x128.Idx → EReal) (w : Vec Ideal S1x128 .f32) (t : Fin 5) (i : Fin 2000) :
    Proj.projOf (F := Ideal) x w (ix3 t 0 i) = ∑ k : Fin 128, w (ix2 0 k) * x (ix2 (node t i) k) := by
  have e : Proj.projOf (F := Ideal) x w (ix3 t 0 i) = k0_pay1 (F := Ideal) w (Proj.xrows x t) (ix3 0 0 i) := by
    unfold Proj.projOf
    refine congrArg (k0_pay1 (F := Ideal) w (Proj.xrows x t)) ?_
    funext a
    match a with
    | ⟨0, _⟩ => rfl
    | ⟨1, _⟩ => rfl
    | ⟨2, _⟩ => rfl
  rw [e]
  unfold k0_pay1
  rw [shapeCast_ab_1ab_apply, shapeCast_self]
  refine (row_mul_apply w _ i).trans (Finset.sum_congr rfl fun k _ => ?_)
  rw [xrows_apply]

theorem proj_node (x : S10000x128.Idx → EReal) (w : S128x1.Idx → EReal) (n : Fin 10000) :
    shapeCast S10000 (Proj.projOf (F := Ideal) x (shapeCast S1x128 w shapeCasts_S128x1_S1x128)) shapeCasts_S5x1x2000_S10000 (ix1 n)
      = ∑ k : Fin 128, w (ix2 k 0) * x (ix2 n k) := by
  have hn := n.isLt
  have ht : n.val / 2000 < 5 := by omega
  have hi : n.val % 2000 < 2000 := Nat.mod_lt _ (by norm_num)
  have hnode : node ⟨n.val / 2000, ht⟩ ⟨n.val % 2000, hi⟩ = n := Fin.ext (show 2000 * (n.val / 2000) + n.val % 2000 = n.val by omega)
  refine (shapeCast_apply _ _ _ (ix3 (⟨n.val / 2000, ht⟩ : Fin 5) (0 : Fin 1) (⟨n.val % 2000, hi⟩ : Fin 2000)) (by
    refine (Shape.rowMajor_val_three _).trans (Eq.trans ?_ (Shape.rowMajor_val_one _).symm)
    show (n.val / 2000 * 1 + 0) * 2000 + n.val % 2000 = n.val
    omega)).trans ?_
  rw [proj_apply, hnode]
  refine Finset.sum_congr rfl fun k _ => by rw [col_row]

/-! ## The edges' endpoints -/

theorem src_word (a1 : S2x320000.Idx → BitVec 32) (e : Fin 320000) :
    shapeCast S320000 (extractStridedSlice S1x320000 ![0, 0] a1 slices_S2x320000_S1x320000_0_0) shapeCasts_S1x320000_S320000 (ix1 e) = a1 (ix2 0 e) := by
  rw [shapeCast_1a_a_apply]
  exact slice2_axis0_apply _ _ _ _ _ 0 rfl

theorem dst_word (a1 : S2x320000.Idx → BitVec 32) (e : Fin 320000) :
    shapeCast S320000 (extractStridedSlice S1x320000 ![1, 0] a1 slices_S2x320000_S1x320000_1_0) shapeCasts_S1x320000_S320000 (ix1 e) = a1 (ix2 1 e) := by
  rw [shapeCast_1a_a_apply]
  exact slice2_axis0_apply _ _ _ _ _ 1 rfl

/-! ## The join, from the arrays -/

section
variable (a0 : S10000x128.Idx → EReal) (a1 : S2x320000.Idx → BitVec 32) (h : ∀ j, (a1 j).toNat < 10000) (a2 : S10000.Idx → BitVec 32)
  (a3 : S128x1.Idx → EReal) (a4 : S1.Idx → EReal) (a5 : S128x1.Idx → EReal)
  (real0 : ∀ j, ∃ r : ℝ, a0 j = (r : EReal)) (real3 : ∀ j, ∃ r : ℝ, a3 j = (r : EReal))

include real0 real3 in
/-- Projecting before or after the sum over edges. -/
theorem proj_sum (S : Finset (Fin 320000)) (f : Fin 320000 → Fin 10000) :
    ∑ e ∈ S, ∑ k : Fin 128, a3 (ix2 k 0) * a0 (ix2 (f e) k) = ∑ k : Fin 128, (∑ e ∈ S, a0 (ix2 (f e) k)) * a3 (ix2 k 0) := by
  rw [Finset.sum_comm]
  refine Finset.sum_congr rfl fun k _ => ?_
  rw [sum_mul_real _ _ _ (fun e _ => real0 _) (real3 _)]
  exact Finset.sum_congr rfl fun e _ => mul_comm _ _

variable (y : S10000.Idx → EReal) (hy : ∀ n, y (ix1 n) = ∑ k : Fin 128, a3 (ix2 k 0) * a0 (ix2 n k))
  (fs fd : S320000.Idx → BitVec 32) (hs : ∀ j, (fs j).toNat < 10000) (hd : ∀ j, (fd j).toNat < 10000)
  (es : ∀ e, fs (ix1 e) = a1 (ix2 0 e)) (ed : ∀ e, fd (ix1 e) = a1 (ix2 1 e))

include h real0 real3 hy es ed in
/-- A node's convolved value, as the pooling call computes it and as the reference does. -/
theorem conv_eq (t : Fin 5) (i : Fin 2000) :
    bx (Proj.xrows (F := Ideal) a0 t) (Pool.prows (F := Ideal) (partsOf (F := Ideal) y fs fd hs hd) t)
        (shapeCast S1x128 a5 shapeCasts_S128x1_S1x128) (shapeCast S1x1 a4 shapeCasts_S1_S1x1) i
      = Ref.xc a0 a1 a3 a4 a5 (ix2 (node t i) 0) := by
  rw [Ref.xc_apply a0 a1 h a3 a4 a5 (node t i), add_right_comm]
  unfold bx
  refine congrArg₂ (· + ·) (congrArg₂ (· + ·) ?_ ?_) (one_one a4)
  · rw [← proj_sum a0 a3 real0 real3]
    have e1 : ∑ w : Fin 32, Pool.prows (F := Ideal) (partsOf (F := Ideal) y fs fd hs hd) t (ix3 0 w i)
        = ∑ w : Fin 32, accFin (F := Ideal) y fs fd hs hd (tileOf w) (ix1 (node t i)) :=
      Finset.sum_congr rfl fun w _ => by
        show accFin (F := Ideal) y fs fd hs hd (tileOf w) _ = _
        refine congrArg (accFin (F := Ideal) y fs fd hs hd (tileOf w)) ?_
        funext a
        match a with
        | ⟨0, _⟩ => rfl
    rw [e1, parts_sum]
    refine Finset.sum_congr ?_ fun e _ => ?_
    · refine Finset.filter_congr fun e _ => ?_
      rw [ed]
      exact ⟨fun q => Fin.ext q, fun q => congrArg Fin.val q⟩
    · rw [hy]
      refine Finset.sum_congr rfl fun k _ => ?_
      have hn : (⟨(fs (ix1 e)).toNat, hs _⟩ : Fin 10000) = Ref.src a1 h e := Fin.ext (show (fs (ix1 e)).toNat = (a1 (ix2 0 e)).toNat by rw [es])
      rw [hn]
  · refine Finset.sum_congr rfl fun k _ => ?_
    rw [col_row, xrows_apply, mul_comm]

include h real0 real3 hy es ed in
/-- The pooled arrays agree. -/
theorem pool_eq :
    Pool.poolOf (F := Ideal) a0 (partsOf (F := Ideal) y fs fd hs hd) (shapeCast S5x1x2000 a2 shapeCasts_S10000_S5x1x2000)
        (shapeCast S1x128 a5 shapeCasts_S128x1_S1x128) (shapeCast S1x1 a4 shapeCasts_S1_S1x1)
      = Ref.pool a0 (Ref.ex (Ref.xc a0 a1 a3 a4 a5) a2) a2 := by
  funext j
  obtain ⟨b, k, rfl⟩ : ∃ (b : Fin 64) (k : Fin 128), j = ix2 b k := ⟨j 0, j 1, eq_ix2 j⟩
  have hS : seen (fun v => a2 (ix1 v)) 5 b = Ref.mem a2 b := seen_all _ b
  rw [poolOf_apply (fun v => a2 (ix1 v)) b a0 real0 _ _ _ _ (fun v => Ref.xc a0 a1 a3 a4 a5 (ix2 v 0))
    (conv_eq a0 a1 h a3 a4 a5 real0 real3 y hy fs fd hs hd es ed) (graph_row a2) k, hS, Ref.pool_apply]
  generalize Ref.xc a0 a1 a3 a4 a5 = X
  refine (pool_final (Ref.mem a2 b) (fun v => X (ix2 v 0)) (fun v => a0 (ix2 v k)) _ _ (fun v hv => Finset.le_sup (f := fun v => X (ix2 v 0)) hv) ?_
    (fun v _ => real0 _) Ref.ofBits_eps).trans ?_
  · intro hT
    rcases (Ref.mem a2 b).eq_empty_or_nonempty with he | hne
    · rw [he, Finset.sup_empty] at hT
      exact absurd hT bot_ne_top
    · obtain ⟨v, hv, e⟩ := Finset.exists_mem_eq_sup _ hne fun v => X (ix2 v 0)
      exact ⟨v, hv, e.symm.trans hT⟩
  · have hex : ∀ v ∈ Ref.mem a2 b, Ideal.exp (X (ix2 v 0) - if max ((Ref.mem a2 b).sup fun v => X (ix2 v 0)) (-(Ref.mem a2 b).sup fun v => X (ix2 v 0)) < ⊤
          then (Ref.mem a2 b).sup fun v => X (ix2 v 0) else 0) = Ref.ex X a2 (ix2 v 0) := fun v hv => by
      rw [Ref.ex_apply a2 X hv, Ref.mx_apply]
    have hsum := Finset.sum_congr (rfl : Ref.mem a2 b = Ref.mem a2 b) hex
    refine Finset.sum_congr rfl fun v hv => ?_
    show a0 (ix2 v k) * Ideal.div _ (_ + _) = _
    rw [hsum, hex v hv]

end

/-- The kernel's result, from the memory, is the reference's. -/
theorem rv_ref (m : (ℓ : Loc nD τ sig) → Buf (Elt Ideal) ℓ) (d : Dev nD) (h : InRange m)
    (a0 : S10000x128.Idx → EReal) (a1 : S2x320000.Idx → BitVec 32) (a2 : S10000.Idx → BitVec 32)
    (a3 : S128x1.Idx → EReal) (a4 : S1.Idx → EReal) (a5 : S128x1.Idx → EReal)
    (e0 : m ((SparseCore.T d).loc (main_arg0 : Ref sig .tc)) = a0) (e1 : m ((SparseCore.T d).loc (main_arg1 : Ref sig .tc)) = a1)
    (e2 : m ((SparseCore.T d).loc (main_arg2 : Ref sig .tc)) = a2) (e3 : m ((SparseCore.T d).loc (main_arg3 : Ref sig .tc)) = a3)
    (e4 : m ((SparseCore.T d).loc (main_arg4 : Ref sig .tc)) = a4) (e5 : m ((SparseCore.T d).loc (main_arg5 : Ref sig .tc)) = a5)
    (edges : ∀ j, (a1 j).toNat < 10000) (real0 : ∀ j, ∃ r : ℝ, a0 j = (r : EReal)) (real3 : ∀ j, ∃ r : ℝ, a3 j = (r : EReal)) :
    rv (F := Ideal) m d h = Ref.pool a0 (Ref.ex (Ref.xc a0 a1 a3 a4 a5) a2) a2 := by
  have hy : ∀ n, yv (F := Ideal) m d (ix1 n) = ∑ k : Fin 128, a3 (ix2 k 0) * a0 (ix2 n k) := fun n => by
    rw [yv_eq, e0, e3]; exact proj_node a0 a3 n
  have hs : ∀ e, sv (F := Ideal) m d (ix1 e) = a1 (ix2 0 e) := fun e => by rw [sv_eq, e1]; exact src_word a1 e
  have hd : ∀ e, tv (F := Ideal) m d (ix1 e) = a1 (ix2 1 e) := fun e => by rw [tv_eq, e1]; exact dst_word a1 e
  rw [rv_eq, e0, e2, e4, e5]
  exact pool_eq a0 a1 edges a2 a3 a4 a5 real0 real3 (yv m d) hy (sv m d) (tv m d) (sv_lt d h) (tv_lt d h) hs hd

end Cert.Proof.Math

end
-- ==== Proof.lean ====
/- The proof of the certificate's claims: the modules under `Proof/` hold the work, this file puts it together. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_edges
public import proofs.«01_k».proof.Proof.Gen.Pre_tame
public import proofs.«01_k».proof.Proof.Pre
public import proofs.«01_k».proof.Proof.K.Launch
public import proofs.«01_k».proof.Proof.KI.Launch
public import proofs.«01_k».proof.Proof.Math.Join
public import Idealize.ShloMosaic.Lib.Quiescent
public import Idealize.ShloMosaic.Adequacy
public import Idealize.ShloMosaic.Init

@[expose] public section

noncomputable section

namespace Cert.Proof

open Idealize.ShloMosaic Idealize.SL.Sem

/-- Every element type has a value at the bits and at the extended reals. -/
instance nonemptyBits (e : EltTy) : Nonempty (Elt Bits e) := by
  cases e <;> exact ⟨(0 : BitVec _)⟩

instance nonemptyIdeal (e : EltTy) : Nonempty (Elt Ideal e) := by
  cases e <;> first | exact ⟨(0 : BitVec _)⟩ | exact ⟨(0 : EReal)⟩

theorem inRange_Kernel (m : (ℓ : Loc Kernel.nD Kernel.τ Kernel.sig) → Buf (Elt Bits) ℓ) (h : @Pre_Kernel Pre_edges.Gen.facts m) : K.InRange m :=
  fun d j => Pre.edges_lt (h d) j

theorem inRange_KernelIdeal (m : (ℓ : Loc KernelIdeal.nD KernelIdeal.τ KernelIdeal.sig) → Buf (Elt Ideal) ℓ)
    (h : @Pre_KernelIdeal Pre_edges.Gen.facts m) : KI.InRange m :=
  fun d j => Pre.edges_lt (h d) j

theorem inRange_tame (m : (ℓ : Loc KernelIdeal.nD KernelIdeal.τ KernelIdeal.sig) → Buf (Elt Ideal) ℓ)
    (h : @Pre_KernelIdeal_tame Pre_tame.Gen.facts m) : KI.InRange m :=
  fun d j => (Pre.tame_of (h d)).edges j

theorem claim : Cert.Claim := ⟨Cert.Kernel.Gen.facts, Cert.KernelIdeal.Gen.facts, Cert.ReferenceIdeal.Gen.facts, Cert.Pre_edges.Gen.facts, Cert.Pre_tame.Gen.facts, by
  refine ⟨fun m g h => ?_, fun m g h => ?_, fun m g h => ?_, fun m g _ => ?_, fun m g _ => ?_, trivial, ?_⟩
  · exact (θ_run _ _ _).mono (fun _ hq => ⟨fun c => (hq.1 c).2, hq.2⟩) (K.run_main m g (inRange_Kernel m h))
  · exact (θ_run _ _ _).mono (fun _ hq => ⟨fun c => (hq.1 c).2, hq.2⟩) (KI.run_main m g (inRange_KernelIdeal m h))
  · exact (θ_run _ _ _).mono (fun _ hq => ⟨fun c => (hq.1 c).2, hq.2⟩) (KI.run_main m g (inRange_tame m h))
  · exact (θ_run _ _ _).mono (fun r hq => ⟨fun c => (hq c).2, sem_eq_zero_of_no_sems rfl r.2⟩) (ReferenceIdeal.Value.run m g)
  · exact (θ_run _ _ _).mono (fun r hq => ⟨fun c => (hq c).2, sem_eq_zero_of_no_sems rfl r.2⟩) (ReferenceIdeal.Value.run m g)
  · intro m g m' g' hpre ha
    have hr := inRange_tame m hpre
    have key : ∀ c : Dev KernelIdeal.nD, ReferenceIdeal.Value.res_main_v59 m' c = KI.rv m c hr := fun c => by
      obtain ⟨q0, q1, q2, q3, q4, q5⟩ := ha c
      have ht := Pre.tame_of (hpre c)
      exact (Ref.res_eq m' c).trans (Math.rv_ref m c hr _ _ _ _ _ _ q0.symm q1.symm q2.symm q3.symm q4.symm q5.symm
        (by rw [q1]; exact ht.edges) (by rw [q0]; exact ht.real0) (by rw [q3]; exact ht.real3)).symm
    refine ⟨fun c => KI.rv m c hr, ?_, ?_⟩
    · exact (θ_run _ _ _).mono (fun _ hq c => hq.1 c) (KI.run_main m g hr)
    · exact (θ_run _ _ _).mono (fun _ hq c => ⟨(hq c).1.trans (key c), (hq c).2⟩) (ReferenceIdeal.Value.run m' g')⟩

end Cert.Proof

end
